-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v15_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x4096 : Shape := ⟨3, ![4, 8192, 4096]⟩
abbrev S4096 : Shape := ⟨1, ![4096]⟩
abbrev S4096x2304 : Shape := ⟨2, ![4096, 2304]⟩
abbrev S2304 : Shape := ⟨1, ![2304]⟩
abbrev S4x8192 : Shape := ⟨2, ![4, 8192]⟩
abbrev S64 : Shape := ⟨1, ![64]⟩
abbrev S_ : Shape := ⟨0, ![]⟩
abbrev S128 : Shape := ⟨1, ![128]⟩
abbrev S1x128 : Shape := ⟨2, ![1, 128]⟩
abbrev S32768x4096 : Shape := ⟨2, ![32768, 4096]⟩
abbrev S1x4096 : Shape := ⟨2, ![1, 4096]⟩
abbrev S1x2304 : Shape := ⟨2, ![1, 2304]⟩
abbrev S32768x1 : Shape := ⟨2, ![32768, 1]⟩
abbrev S32768x2048 : Shape := ⟨2, ![32768, 2048]⟩
abbrev S32768x128 : Shape := ⟨2, ![32768, 128]⟩
abbrev S256x4096 : Shape := ⟨2, ![256, 4096]⟩
abbrev S256x1 : Shape := ⟨2, ![256, 1]⟩
abbrev S256x2048 : Shape := ⟨2, ![256, 2048]⟩
abbrev S256x128 : Shape := ⟨2, ![256, 128]⟩
abbrev S256 : Shape := ⟨1, ![256]⟩
abbrev S256x256 : Shape := ⟨2, ![256, 256]⟩
abbrev S256x2304 : Shape := ⟨2, ![256, 2304]⟩

abbrev nBuf : Space → Nat
  | .hbm => 30
  | .vmem => 18
  | .smem => 0
  | _ => 0

abbrev bufTy : (tb : Table) → Fin (tcTables nBuf tb) → BufTy
  | .hbm, ⟨0, _⟩ => ⟨S4x8192x4096, .bf16⟩
  | .hbm, ⟨1, _⟩ => ⟨S4096, .f32⟩
  | .hbm, ⟨2, _⟩ => ⟨S4096x2304, .fp8e4m3⟩
  | .hbm, ⟨3, _⟩ => ⟨S2304, .f32⟩
  | .hbm, ⟨4, _⟩ => ⟨S4x8192, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S32768x4096, .bf16⟩
  | .hbm, ⟨22, _⟩ => ⟨S1x4096, .f32⟩
  | .hbm, ⟨23, _⟩ => ⟨S1x2304, .f32⟩
  | .hbm, ⟨24, _⟩ => ⟨S32768x1, .i32⟩
  | .hbm, ⟨25, _⟩ => ⟨S32768x2048, .bf16⟩
  | .hbm, ⟨26, _⟩ => ⟨S32768x128, .bf16⟩
  | .hbm, ⟨27, _⟩ => ⟨S32768x128, .bf16⟩
  | .hbm, ⟨28, _⟩ => ⟨S32768x4096, .fp8e4m3⟩
  | .hbm, ⟨29, _⟩ => ⟨S32768x1, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x2304, .fp8e4m3⟩
  | .local _ .vmem, ⟨4, _⟩ => ⟨S1x2304, .f32⟩
  | .local _ .vmem, ⟨5, _⟩ => ⟨S256x1, .i32⟩
  | .local _ .vmem, ⟨6, _⟩ => ⟨S256x1, .i32⟩
  | .local _ .vmem, ⟨7, _⟩ => ⟨S1x128, .f32⟩
  | .local _ .vmem, ⟨8, _⟩ => ⟨S256x2048, .bf16⟩
  | .local _ .vmem, ⟨9, _⟩ => ⟨S256x2048, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x4096, .fp8e4m3⟩
  | .local _ .vmem, ⟨15, _⟩ => ⟨S256x4096, .fp8e4m3⟩
  | .local _ .vmem, ⟨16, _⟩ => ⟨S256x1, .f32⟩
  | .local _ .vmem, ⟨17, _⟩ => ⟨S256x1, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x8192x4096 : Shape := ⟨3, ![4, 8192, 4096]⟩
abbrev S4096 : Shape := ⟨1, ![4096]⟩
abbrev S4096x2304 : Shape := ⟨2, ![4096, 2304]⟩
abbrev S2304 : Shape := ⟨1, ![2304]⟩
abbrev S4x8192 : Shape := ⟨2, ![4, 8192]⟩
abbrev S64 : Shape := ⟨1, ![64]⟩
abbrev S_ : Shape := ⟨0, ![]⟩
abbrev S32768x4096 : Shape := ⟨2, ![32768, 4096]⟩
abbrev S1x4096 : Shape := ⟨2, ![1, 4096]⟩
abbrev S1x2304 : Shape := ⟨2, ![1, 2304]⟩
abbrev S32768x1 : Shape := ⟨2, ![32768, 1]⟩
abbrev S1x64 : Shape := ⟨2, ![1, 64]⟩
abbrev S32768x2048 : Shape := ⟨2, ![32768, 2048]⟩
abbrev S32768x128 : Shape := ⟨2, ![32768, 128]⟩
abbrev S32768 : Shape := ⟨1, ![32768]⟩
abbrev S32768x2304 : Shape := ⟨2, ![32768, 2304]⟩
abbrev S32768x16x128 : Shape := ⟨3, ![32768, 16, 128]⟩
abbrev S32768x64 : Shape := ⟨2, ![32768, 64]⟩
abbrev S32768x1x64 : Shape := ⟨3, ![32768, 1, 64]⟩
abbrev S32768x16x64 : Shape := ⟨3, ![32768, 16, 64]⟩

abbrev nBuf : Space → Nat
  | .hbm => 29
  | .vmem => 11
  | .smem => 0
  | _ => 0

abbrev bufTy : (tb : Table) → Fin (tcTables nBuf tb) → BufTy
  | .hbm, ⟨0, _⟩ => ⟨S4x8192x4096, .bf16⟩
  | .hbm, ⟨1, _⟩ => ⟨S4096, .f32⟩
  | .hbm, ⟨2, _⟩ => ⟨S4096x2304, .fp8e4m3⟩
  | .hbm, ⟨3, _⟩ => ⟨S2304, .f32⟩
  | .hbm, ⟨4, _⟩ => ⟨S4x8192, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S32768x4096, .bf16⟩
  | .hbm, ⟨20, _⟩ => ⟨S1x4096, .f32⟩
  | .hbm, ⟨21, _⟩ => ⟨S1x2304, .f32⟩
  | .hbm, ⟨22, _⟩ => ⟨S32768x1, .i32⟩
  | .hbm, ⟨23, _⟩ => ⟨S1x64, .f32⟩
  | .hbm, ⟨24, _⟩ => ⟨S32768x2048, .bf16⟩
  | .hbm, ⟨25, _⟩ => ⟨S32768x128, .bf16⟩
  | .hbm, ⟨26, _⟩ => ⟨S32768x128, .bf16⟩
  | .hbm, ⟨27, _⟩ => ⟨S32768x4096, .fp8e4m3⟩
  | .hbm, ⟨28, _⟩ => ⟨S32768x1, .f32⟩
  | .local _ .vmem, ⟨0, _⟩ => ⟨S32768x4096, .bf16⟩
  | .local _ .vmem, ⟨1, _⟩ => ⟨S1x4096, .f32⟩
  | .local _ .vmem, ⟨2, _⟩ => ⟨S4096x2304, .fp8e4m3⟩
  | .local _ .vmem, ⟨3, _⟩ => ⟨S1x2304, .f32⟩
  | .local _ .vmem, ⟨4, _⟩ => ⟨S32768x1, .i32⟩
  | .local _ .vmem, ⟨5, _⟩ => ⟨S1x64, .f32⟩
  | .local _ .vmem, ⟨6, _⟩ => ⟨S32768x2048, .bf16⟩
  | .local _ .vmem, ⟨7, _⟩ => ⟨S32768x128, .bf16⟩
  | .local _ .vmem, ⟨8, _⟩ => ⟨S32768x128, .bf16⟩
  | .local _ .vmem, ⟨9, _⟩ => ⟨S32768x4096, .fp8e4m3⟩
  | .local _ .vmem, ⟨10, _⟩ => ⟨S32768x1, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32768x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32768x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32768x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Scale.lean ====
/-
  The quantiser's power-of-two scale, as scalar mathematics on the extended reals: a row's exponent
  read off by counting the powers of two it reaches, and the same exponent by the logarithm, give the
  same scale and the same inverse scale. No program is mentioned here.
-/
module

public import Idealize.ShloMosaic.Lib.Pointwise
public import Idealize.ShloMosaic.Lib.WordSum
public import Idealize.ShloMosaic.Lib.IndicatorCount

@[expose] public section

noncomputable section

open Idealize.ShloMosaic

namespace RopeQuant

/-! ## The binary exponent by the logarithm -/

/-- The exponent `⌊log₂ t⌋ + 1` where `2⁻¹²⁶ ≤ t < 2¹²⁶`, else 0. -/
def expo (t : EReal) : EReal :=
  Scalar.select
    (IntOp.andi (BitVec.ofBool (decide (Ideal.ofBits .f32 0x00800000#32 ≤ t)))
      (BitVec.ofBool (decide (t < Ideal.ofBits .f32 0x7E800000#32))))
    (Ideal.liftRound Int.floor (Ideal.div (Ideal.log t) (Ideal.log (Ideal.ofBits .f32 0x40000000#32))) + 1)
    0

/-! ## Words that are powers of two -/

/-- The word with exponent field `k`, `1 ≤ k ≤ 254`, and nothing else denotes `2 ^ (k - 127)`. -/
theorem ofBits_exponent (k : Nat) (h1 : 1 ≤ k) (h2 : k ≤ 254) :
    Ideal.ofBits .f32 (BitVec.ofNat 32 k <<< 23) = (((2 : ℝ) ^ ((k : ℤ) - 127) : ℝ) : EReal) := by
  have key : ∀ k : Fin 255, (BitVec.extractLsb' 31 1 (BitVec.ofNat 32 k.val <<< 23) == 1#1) = false
      ∧ (BitVec.extractLsb' 23 8 (BitVec.ofNat 32 k.val <<< 23)).toNat = k.val
      ∧ (BitVec.extractLsb' 0 23 (BitVec.ofNat 32 k.val <<< 23)).toNat = 0 := by decide +kernel
  obtain ⟨hs, he, hf⟩ := key ⟨k, by omega⟩
  simp only at hs he hf
  have hv : (1 : ℝ) * ((2 ^ 23 + 0 : ℕ) : ℝ) * (2 : ℝ) ^ ((k : ℤ) - (2 ^ (8 - 1) - 1) - (23 : ℕ)) = (2 : ℝ) ^ ((k : ℤ) - 127) := by
    rw [show ((k : ℤ) - 127) = 23 + ((k : ℤ) - (2 ^ (8 - 1) - 1) - (23 : ℕ)) by norm_num, zpow_add₀ (by norm_num : (2 : ℝ) ≠ 0)]
    norm_num
  rw [← hv]
  generalize BitVec.ofNat 32 k <<< 23 = b at hs he hf
  have e : Ideal.ofBits .f32 b = Ideal.ieee 8 23 b := by unfold Ideal.ofBits; rfl
  rw [e]
  unfold Ideal.ieee
  simp only [Nat.reduceAdd, hs, he, hf]
  rw [if_neg (by omega), if_neg (by omega)]
  simp only [Bool.false_eq_true, if_false]

/-- The least normal number. -/
theorem ofBits_least : Ideal.ofBits .f32 0x00800000#32 = (((2 : ℝ) ^ (-126 : ℤ) : ℝ) : EReal) := by
  have h := ofBits_exponent 1 (by norm_num) (by norm_num)
  norm_num at h ⊢
  exact h

/-- The bound above which the inverse scale is not a normal number. -/
theorem ofBits_bound : Ideal.ofBits .f32 0x7E800000#32 = (((2 : ℝ) ^ (126 : ℤ) : ℝ) : EReal) := by
  have h := ofBits_exponent 253 (by norm_num) (by norm_num)
  norm_num at h ⊢
  exact h

/-- The literal two. -/
theorem ofBits_two : Ideal.ofBits .f32 0x40000000#32 = ((2 : ℝ) : EReal) := by
  have h := ofBits_exponent 128 (by norm_num) (by norm_num)
  norm_num at h ⊢
  exact h

/-! ## The exponent by counting -/

/-- What lane `x` of 256 adds to the count: 0 where `t` is below the power of two that the lane holds, else 1, and 0
    on lane 0. Lanes 1 … 253 hold `2⁻¹²⁶ … 2¹²⁶`, lanes 254 and 255 hold `2¹²⁶` again. -/
def counted (t : EReal) (x : Fin 256) : BitVec 32 :=
  Scalar.select
    (BitVec.ofBool (decide
      (t < Ideal.ofBits .f32 (IntOp.shli .vector (IntOp.minsi (BitVec.ofNat 32 x.val) 253#32) 23#32))))
    0#32 (IntOp.minsi (BitVec.ofNat 32 x.val) 1#32)

/-- The number of lanes whose power `t` reaches, as a 32-bit word. -/
def count (t : EReal) : BitVec 32 :=
  Finset.univ.fold IntOp.addi 0#32 fun x : Fin 256 => counted t x

/-- Lane `x`'s word is the power with exponent field `min x 253`. -/
theorem lane_word (x : Fin 256) :
    IntOp.shli .vector (IntOp.minsi (BitVec.ofNat 32 x.val) 253#32) 23#32 = BitVec.ofNat 32 (min x.val 253) <<< 23 := by
  revert x; decide +kernel

/-- The least of a lane's number and 1. -/
theorem lane_min (x : Fin 256) : IntOp.minsi (BitVec.ofNat 32 x.val) 1#32 = if 0 < x.val then 1#32 else 0#32 := by
  revert x; decide +kernel

/-- A lane counts when it is not lane 0 and its power is at most `t`. -/
theorem counted_eq (t : EReal) (x : Fin 256) :
    counted t x = Scalar.select (BitVec.ofBool (decide
      (0 < x.val ∧ (((2 : ℝ) ^ (((min x.val 253 : ℕ) : ℤ) - 127) : ℝ) : EReal) ≤ t))) 1#32 0#32 := by
  unfold counted
  rw [lane_word, lane_min]
  by_cases h : 0 < x.val
  · rw [ofBits_exponent _ (by omega) (by omega)]
    by_cases ht : t < (((2 : ℝ) ^ (((min x.val 253 : ℕ) : ℤ) - 127) : ℝ) : EReal)
    · simp only [h, ht, not_le.2 ht, Scalar.select, true_and, decide_true, decide_false]
      rfl
    · simp only [h, ht, not_lt.1 ht, Scalar.select, true_and, if_true, decide_true, decide_false]
      rfl
  · simp only [h, false_and, if_false, decide_false, Scalar.select]
    split <;> rfl

/-- If exactly the lanes `1 … n` count, the count is `n`. -/
theorem count_eq (t : EReal) (n : Nat) (hn : n ≤ 255)
    (h : ∀ x : Fin 256, 0 < x.val → ((((2 : ℝ) ^ (((min x.val 253 : ℕ) : ℤ) - 127) : ℝ) : EReal) ≤ t ↔ x.val ≤ n)) :
    count t = BitVec.ofNat 32 n := by
  have key : ∀ n : Fin 256, (Finset.univ.fold IntOp.addi 0#32 fun x : Fin 256 =>
      Scalar.select (BitVec.ofBool (decide (0 < x.val ∧ x.val ≤ n.val))) 1#32 0#32) = BitVec.ofNat 32 n.val := by
    decide +kernel
  rw [← key ⟨n, by omega⟩]
  unfold count
  congr 1
  funext x
  rw [counted_eq]
  by_cases hx : 0 < x.val
  · simp only [hx, true_and, h x hx]
  · simp only [hx, false_and]

/-! ## The two exponents agree -/

/-- The exponent the kernel selects: the count less 126 where the count is neither 0 nor 255 and the row is not zero. -/
def expWord (a t : EReal) : BitVec 32 :=
  Scalar.select
    (IntOp.andi (IntOp.andi (IntOp.cmpi .sgt (count t) 0#32) (IntOp.cmpi .slt (count t) 255#32))
      (BitVec.ofBool (decide (a ≠ 0))))
    (IntOp.subi (count t) 126#32) 0#32

/-- Below the least normal number nothing is counted. -/
theorem count_low (t : EReal) (h : t < (((2 : ℝ) ^ (-126 : ℤ) : ℝ) : EReal)) : count t = 0#32 := by
  refine count_eq t 0 (by omega) fun x hx => ⟨fun h' => absurd (h.trans_le' h') ?_, fun h' => by omega⟩
  rw [not_lt, EReal.coe_le_coe_iff]
  exact zpow_le_zpow_right₀ (by norm_num) (by omega)

/-- From `2¹²⁶` on every lane but lane 0 counts. -/
theorem count_high (t : EReal) (h : (((2 : ℝ) ^ (126 : ℤ) : ℝ) : EReal) ≤ t) : count t = 255#32 := by
  refine count_eq t 255 (by omega) fun x hx => ⟨fun _ => by omega, fun _ => le_trans ?_ h⟩
  rw [EReal.coe_le_coe_iff]
  exact zpow_le_zpow_right₀ (by norm_num) (by omega)

/-- In between, the count is the floor of the binary logarithm plus 127. -/
theorem count_mid (r : ℝ) (L : ℤ) (hl : -126 ≤ L) (hu : L < 126) (h1 : (2 : ℝ) ^ L ≤ r) (h2 : r < (2 : ℝ) ^ (L + 1)) :
    count (r : EReal) = BitVec.ofNat 32 (L + 127).toNat := by
  refine count_eq _ _ (by omega) fun x hx => ?_
  rw [EReal.coe_le_coe_iff]
  constructor
  · intro h
    have := (zpow_lt_zpow_iff_right₀ (by norm_num : (1 : ℝ) < 2)).1 (h.trans_lt h2)
    omega
  · intro h
    exact (zpow_le_zpow_right₀ (by norm_num) (by omega)).trans h1

/-- The integer power a real exponent names. -/
theorem exp2_int (L : ℤ) : Ideal.exp2 ((L : ℝ) : EReal) = (((2 : ℝ) ^ L : ℝ) : EReal) := by
  show ((Real.rpow 2 (L : ℝ) : ℝ) : EReal) = _
  congr 1
  exact Real.rpow_intCast 2 L

/-- A number in range has the logarithm's floor as its exponent. -/
theorem expo_mid (r : ℝ) (L : ℤ) (hl : -126 ≤ L) (hu : L < 126) (h1 : (2 : ℝ) ^ L ≤ r) (h2 : r < (2 : ℝ) ^ (L + 1)) :
    expo (r : EReal) = (((L + 1 : ℤ) : ℝ) : EReal) := by
  have hr : 0 < r := lt_of_lt_of_le (by positivity) h1
  have g1 : Ideal.ofBits .f32 0x00800000#32 ≤ (r : EReal) := by
    rw [ofBits_least, EReal.coe_le_coe_iff]
    exact (zpow_le_zpow_right₀ (by norm_num) hl).trans h1
  have g2 : (r : EReal) < Ideal.ofBits .f32 0x7E800000#32 := by
    rw [ofBits_bound, EReal.coe_lt_coe_iff]
    exact h2.trans_le (zpow_le_zpow_right₀ (by norm_num) (by omega))
  have hlog2 : 0 < Real.log 2 := Real.log_pos (by norm_num)
  have e1 : Ideal.log (r : EReal) = ((Real.log r : ℝ) : EReal) := if_neg (not_le.2 hr)
  have e2 : Ideal.log (Ideal.ofBits .f32 0x40000000#32) = ((Real.log 2 : ℝ) : EReal) := by
    rw [ofBits_two]; exact if_neg (by norm_num)
  have e3 : Ideal.div ((Real.log r : ℝ) : EReal) ((Real.log 2 : ℝ) : EReal) = ((Real.log r / Real.log 2 : ℝ) : EReal) := by
    unfold Ideal.div
    rw [if_neg (by exact_mod_cast hlog2.ne'), ← EReal.coe_inv, ← EReal.coe_mul, div_eq_mul_inv]
  have e4 : ⌊Real.log r / Real.log 2⌋ = L := by
    rw [Int.floor_eq_iff]
    constructor
    · rw [le_div_iff₀ hlog2, ← Real.log_zpow]
      exact Real.log_le_log (by positivity) h1
    · rw [div_lt_iff₀ hlog2]
      have := Real.log_lt_log hr h2
      rw [Real.log_zpow] at this
      push_cast at this
      exact this
  unfold expo
  rw [e1, e2, e3, decide_eq_true g1, decide_eq_true g2]
  show (((⌊Real.log r / Real.log 2⌋ : ℤ) : ℝ) : EReal) + 1 = _
  rw [e4]
  push_cast
  rfl

/-- Out of range the exponent is 0. -/
theorem expo_out (t : EReal) (h : t < (((2 : ℝ) ^ (-126 : ℤ) : ℝ) : EReal) ∨ (((2 : ℝ) ^ (126 : ℤ) : ℝ) : EReal) ≤ t) :
    expo t = 0 := by
  unfold expo
  rw [ofBits_least, ofBits_bound]
  rcases h with h | h
  · rw [decide_eq_false (not_le.2 h)]
    simp [IntOp.andi, Scalar.select]
  · rw [decide_eq_false (not_lt.2 h)]
    simp [IntOp.andi, Scalar.select]

/-- Every number in range has its exponent. -/
theorem exists_exponent (t : EReal) (h1 : (((2 : ℝ) ^ (-126 : ℤ) : ℝ) : EReal) ≤ t) (h2 : t < (((2 : ℝ) ^ (126 : ℤ) : ℝ) : EReal)) :
    ∃ (r : ℝ) (L : ℤ), t = (r : EReal) ∧ -126 ≤ L ∧ L < 126 ∧ (2 : ℝ) ^ L ≤ r ∧ r < (2 : ℝ) ^ (L + 1) := by
  have ht : t ≠ ⊤ := (h2.trans_le le_top).ne
  have hb : t ≠ ⊥ := (bot_lt_iff_ne_bot.1 ((EReal.bot_lt_coe _).trans_le h1))
  lift t to ℝ using ⟨ht, hb⟩
  rw [EReal.coe_le_coe_iff] at h1
  rw [EReal.coe_lt_coe_iff] at h2
  have hr : 0 < t := lt_of_lt_of_le (by positivity) h1
  obtain ⟨L, hL1, hL2⟩ := exists_mem_Ico_zpow hr (by norm_num : (1 : ℝ) < 2)
  refine ⟨t, L, rfl, ?_, ?_, hL1, hL2⟩
  · have := (zpow_lt_zpow_iff_right₀ (by norm_num : (1 : ℝ) < 2)).1 (h1.trans_lt hL2)
    omega
  · exact (zpow_lt_zpow_iff_right₀ (by norm_num : (1 : ℝ) < 2)).1 (hL1.trans_lt h2)

/-- The word 127 plus the kernel's exponent, moved into the exponent field, is the scale; 127 less it, the inverse scale. -/
theorem scale_words (a t : EReal) (ha : a = 0 → t = 0) :
    Ideal.ofBits .f32 (IntOp.shli .vector (IntOp.addi 127#32 (expWord a t)) 23#32) = Ideal.exp2 (expo t)
    ∧ Ideal.ofBits .f32 (IntOp.shli .vector (IntOp.subi 127#32 (expWord a t)) 23#32) = Ideal.exp2 (0 - expo t) := by
  have one : Ideal.ofBits .f32 (BitVec.ofNat 32 127 <<< 23) = Ideal.exp2 ((((0 : ℤ) : ℝ)) : EReal) := by
    rw [exp2_int, ofBits_exponent _ (by norm_num) (by norm_num)]; norm_num
  have out (hw : expWord a t = 0#32) (he : expo t = 0) :
      Ideal.ofBits .f32 (IntOp.shli .vector (IntOp.addi 127#32 (expWord a t)) 23#32) = Ideal.exp2 (expo t)
      ∧ Ideal.ofBits .f32 (IntOp.shli .vector (IntOp.subi 127#32 (expWord a t)) 23#32) = Ideal.exp2 (0 - expo t) := by
    rw [hw, he]
    have z : (0 : EReal) = (((0 : ℤ) : ℝ) : EReal) := by norm_num
    refine ⟨?_, ?_⟩
    · rw [z]; exact one
    · rw [sub_zero, z]; exact one
  by_cases hlo : t < (((2 : ℝ) ^ (-126 : ℤ) : ℝ) : EReal)
  · refine out ?_ (expo_out t (.inl hlo))
    unfold expWord; rw [count_low t hlo]
    by_cases h0 : a = 0 <;> simp [h0, IntOp.cmpi, IntOp.andi, Scalar.select]
  by_cases hhi : (((2 : ℝ) ^ (126 : ℤ) : ℝ) : EReal) ≤ t
  · refine out ?_ (expo_out t (.inr hhi))
    unfold expWord; rw [count_high t hhi]
    by_cases h0 : a = 0 <;> simp [h0, IntOp.cmpi, IntOp.andi, Scalar.select]
  obtain ⟨r, L, rfl, hl, hu, h1, h2⟩ := exists_exponent t (not_lt.1 hlo) (not_le.1 hhi)
  have hr : 0 < r := lt_of_lt_of_le (by positivity) h1
  have ha' : a ≠ 0 := fun h => by
    have := ha h
    rw [EReal.coe_eq_zero] at this
    exact hr.ne' this
  obtain ⟨k, hk⟩ : ∃ k : Fin 252, L = (k.val : ℤ) - 126 := ⟨⟨(L + 126).toNat, by omega⟩, by simp only; omega⟩
  have words : ∀ k : Fin 252,
      (IntOp.shli .vector (IntOp.addi 127#32 (Scalar.select
        (IntOp.andi (IntOp.andi (IntOp.cmpi .sgt (BitVec.ofNat 32 (k.val + 1)) 0#32) (IntOp.cmpi .slt (BitVec.ofNat 32 (k.val + 1)) 255#32))
          (BitVec.ofBool true)) (IntOp.subi (BitVec.ofNat 32 (k.val + 1)) 126#32) 0#32)) 23#32 = BitVec.ofNat 32 (k.val + 2) <<< 23)
      ∧ (IntOp.shli .vector (IntOp.subi 127#32 (Scalar.select
        (IntOp.andi (IntOp.andi (IntOp.cmpi .sgt (BitVec.ofNat 32 (k.val + 1)) 0#32) (IntOp.cmpi .slt (BitVec.ofNat 32 (k.val + 1)) 255#32))
          (BitVec.ofBool true)) (IntOp.subi (BitVec.ofNat 32 (k.val + 1)) 126#32) 0#32)) 23#32 = BitVec.ofNat 32 (252 - k.val) <<< 23) := by
    decide +kernel
  have hc : count (r : EReal) = BitVec.ofNat 32 (k.val + 1) := by
    rw [count_mid r L hl hu h1 h2]; congr 1; omega
  have he := expo_mid r L hl hu h1 h2
  unfold expWord
  rw [hc, decide_eq_true ha', (words k).1, (words k).2, he, ofBits_exponent _ (by omega) (by omega),
    ofBits_exponent _ (by omega) (by omega), exp2_int]
  have hneg : (0 : EReal) - (((L + 1 : ℤ) : ℝ) : EReal) = (((-(L + 1) : ℤ) : ℝ) : EReal) := by
    rw [zero_sub, ← EReal.coe_neg]; push_cast; rfl
  rw [hneg, exp2_int]
  refine ⟨?_, ?_⟩
  · congr 2; push_cast; omega
  · congr 2
    have : ((252 - k.val : ℕ) : ℤ) = 252 - k.val := by have := k.isLt; omega
    omega

end RopeQuant

end
-- ==== Proof.RowSpec.lean ====
/-
  What the layer computes for one token, as plain functions on the extended reals: the normalised row, its
  greatest magnitude, the power-of-two scale, the codes, the dequantised product and the rotary embedding.
  Both programs are shown to compute these; no program is mentioned here. Then the two reductions along a row,
  read at an index, for any number of rows.
-/
module

public import proofs.«01_k».proof.Proof.Scale
public import Idealize.ShloMosaic.PureOps.Ideal.Laws

@[expose] public section

noncomputable section

open Idealize.ShloMosaic

namespace RopeQuant

/-! ## One token's row -/

/-- Entry `j` of the RMS-normalised row `x` with gain `g`. -/
def normAt (x g : Fin 4096 → EReal) (j : Fin 4096) : EReal :=
  x j * Ideal.rsqrt (Ideal.div (∑ k, x k * x k) (Ideal.ofBits .f32 0x45800000#32) + Ideal.ofBits .f32 0x358637BD#32) * g j

/-- The row's greatest magnitude. -/
def amaxAt (x g : Fin 4096 → EReal) : EReal :=
  Finset.univ.fold max (Ideal.ofBits .f32 0xFF800000#32) fun k => FloatOps.absf (F := Ideal) (φ := .f32) (normAt x g k)

/-- The quotient of the row's greatest magnitude by 448, as the multiplication by the rounded reciprocal that both programs state. -/
def ratioAt (x g : Fin 4096 → EReal) : EReal := amaxAt x g * Ideal.ofBits .f32 0x3B124925#32

/-- The row's scale. -/
def scaleAt (x g : Fin 4096 → EReal) : EReal := Ideal.exp2 (expo (ratioAt x g))

/-- Code `j` of the row: the entry over the scale, clipped to ±448. -/
def codeAt (x g : Fin 4096 → EReal) (j : Fin 4096) : EReal :=
  min (Ideal.ofBits .f32 0x43E00000#32)
    (max (Ideal.ofBits .f32 0xC3E00000#32) (normAt x g j * Ideal.exp2 (0 - expo (ratioAt x g))))

/-- Entry `n` of the row's product with the weights `w`, scaled back. -/
def prodAt (x g : Fin 4096 → EReal) (w : Fin 4096 → Fin 2304 → EReal) (ws : Fin 2304 → EReal) (n : Fin 2304) : EReal :=
  (∑ k, codeAt x g k * w k n) * scaleAt x g * ws n

/-- The row's product at any column number (0 beyond the last column). -/
def prodN (x g : Fin 4096 → EReal) (w : Fin 4096 → Fin 2304 → EReal) (ws : Fin 2304 → EReal) (n : Nat) : EReal :=
  if h : n < 2304 then prodAt x g w ws ⟨n, h⟩ else 0

theorem prodAt_eq (x g : Fin 4096 → EReal) (w : Fin 4096 → Fin 2304 → EReal) (ws : Fin 2304 → EReal) (n : Fin 2304) :
    prodAt x g w ws n = prodN x g w ws n.val := by
  unfold prodN; rw [dif_pos n.isLt]

/-- The angle of position `p` at frequency number `l` (0 beyond the last). -/
def angleN (p : BitVec 32) (f : Fin 64 → EReal) (l : Nat) : EReal :=
  if h : l < 64 then FloatOps.sitofp (F := Ideal) .f32 p * f ⟨l, h⟩ else 0

theorem angle_eq (p : BitVec 32) (f : Fin 64 → EReal) (l : Fin 64) :
    FloatOps.sitofp (F := Ideal) .f32 p * f l = angleN p f l.val := by
  unfold angleN; rw [dif_pos l.isLt]

/-- Lane `l` of the rotary embedding of the head that starts at column `o` of the row `y`. -/
def ropeAt (y : Nat → EReal) (p : BitVec 32) (f : Fin 64 → EReal) (o l : Nat) : EReal :=
  if l < 64 then y (o + l) * Ideal.cos (angleN p f l) - y (o + (64 + l)) * Ideal.sin (angleN p f l)
  else y (o + l) * Ideal.cos (angleN p f (l - 64)) + y (o + (l - 64)) * Ideal.sin (angleN p f (l - 64))

/-- The embedding as one rotation by half the head against a sine negated on the first half: the two forms agree,
    since subtracting a product is adding the product with the negated factor. -/
theorem rope_rolled (y : Nat → EReal) (p : BitVec 32) (f : Fin 64 → EReal) (o l : Nat) (hl : l < 128) :
    y (o + l) * Ideal.cos (angleN p f (l % 64))
      + y (o + (l + 128 - 64) % 128) * (if l < 64 then 0 - Ideal.sin (angleN p f (l % 64)) else Ideal.sin (angleN p f (l % 64)))
    = ropeAt y p f o l := by
  unfold ropeAt
  by_cases h : l < 64
  · rw [if_pos h, if_pos h, Nat.mod_eq_of_lt h, show (l + 128 - 64) % 128 = 64 + l by omega, zero_sub, mul_neg, ← sub_eq_add_neg]
  · rw [if_neg h, if_neg h, show l % 64 = l - 64 by omega, show (l + 128 - 64) % 128 = l - 64 by omega]

/-- The count-based scale and inverse scale are the row's. The one thing asked: a zero row has ratio zero. -/
theorem scale_words_row (x g : Fin 4096 → EReal) :
    Ideal.ofBits .f32 (IntOp.shli .vector (IntOp.addi 127#32 (expWord (amaxAt x g) (ratioAt x g))) 23#32) = scaleAt x g
    ∧ Ideal.ofBits .f32 (IntOp.shli .vector (IntOp.subi 127#32 (expWord (amaxAt x g) (ratioAt x g))) 23#32)
        = Ideal.exp2 (0 - expo (ratioAt x g)) :=
  scale_words _ _ fun h => by unfold ratioAt; rw [h, zero_mul]

/-! ## Reductions along a row, for any number of rows -/

/-- A vector laid out as a column, at an index. -/
theorem column_apply {R : Nat} {α : Type} (v : (⟨1, ![R]⟩ : Shape).Idx → α)
    (hs : (⟨1, ![R]⟩ : Shape).ShapeCasts ⟨2, ![R, 1]⟩) (i : Fin R) (j : Fin 1) :
    shapeCast ⟨2, ![R, 1]⟩ v hs (ix2 i j) = v (ix1 i) :=
  congrArg v (Shape.reshapeEquiv_eq_of_vals hs (ix2 i j) (ix1 i) i.val (i.val * 1 + j.val)
    (rowMajor_val1 _) (rowMajor_val2 _ 1 rfl) (by omega))

/-- A row's sum, kept as a column, at an index. -/
theorem rowSum_apply {R C : Nat} (src : FVec Ideal ⟨2, ![R, C]⟩ .f32) (acc : BitVec 32)
    (h : (⟨2, ![R, C]⟩ : Shape).Reduces [1] ⟨1, ![R]⟩) (hφ : FKind.Formats .f32) (hacc : acc = FKind.add.neutral .f32 hφ)
    (hs : (⟨1, ![R]⟩ : Shape).ShapeCasts ⟨2, ![R, 1]⟩) (i : Fin R) (j : Fin 1) :
    shapeCast ⟨2, ![R, 1]⟩ (multiReduction .add [1] ⟨1, ![R]⟩ src acc h hφ hacc) hs (ix2 i j) = ∑ k : Fin C, src (ix2 i k) := by
  rw [column_apply]
  pointwise []

/-- A row's maximum, kept as a column, at an index. -/
theorem rowMax_apply {R C : Nat} (src : FVec Ideal ⟨2, ![R, C]⟩ .f32) (acc : BitVec 32)
    (h : (⟨2, ![R, C]⟩ : Shape).Reduces [1] ⟨1, ![R]⟩) (hφ : FKind.Formats .f32) (hacc : acc = FKind.maximumf.neutral .f32 hφ)
    (hs : (⟨1, ![R]⟩ : Shape).ShapeCasts ⟨2, ![R, 1]⟩) (i : Fin R) (j : Fin 1) :
    shapeCast ⟨2, ![R, 1]⟩ (multiReduction .maximumf [1] ⟨1, ![R]⟩ src acc h hφ hacc) hs (ix2 i j)
      = Finset.univ.fold max (Ideal.ofBits .f32 acc) fun k : Fin C => src (ix2 i k) := by
  rw [column_apply]
  pointwise []

/-- A row's integer sum, kept as a column, at an index. -/
theorem rowCount_apply {R C : Nat} (src : IVec ⟨2, ![R, C]⟩ 32)
    (h : (⟨2, ![R, C]⟩ : Shape).Reduces [1] ⟨1, ![R]⟩) (hacc : (0#32 : BitVec 32) = IKind.add.neutral)
    (hs : (⟨1, ![R]⟩ : Shape).ShapeCasts ⟨2, ![R, 1]⟩) (i : Fin R) (j : Fin 1) :
    shapeCast ⟨2, ![R, 1]⟩ (multiReductionI .add [1] ⟨1, ![R]⟩ src 0#32 h hacc) hs (ix2 i j)
      = Finset.univ.fold IntOp.addi 0#32 fun k : Fin C => src (ix2 i k) := by
  rw [column_apply]
  pointwise []

end RopeQuant

end
-- ==== Proof.KernelRows.lean ====
/-
  The kernel's body on one block of 256 tokens, each value read at an index: it is the token's row-wise function
  (RowSpec.lean) of the block's row.
-/
module

public import proofs.«01_k».proof.Proof.Gen.KernelIdeal.Skeleton
public import proofs.«01_k».proof.Proof.RowSpec

@[expose] public section

set_option maxRecDepth 16384

noncomputable section

open Idealize.ShloMosaic Idealize.ShloMosaic.TcCoe

namespace Cert.KernelIdeal.RowValue

open Cert.KernelIdeal Cert.KernelIdeal.Gen RopeQuant

/-- The normalised block. -/
theorem norm_apply (x : Vec Ideal S256x4096 .bf16) (g : Vec Ideal S1x4096 .f32) (i : Fin 256) (j : Fin 4096) :
    k0_pay4 x g (ix2 i j) = normAt (fun k => x (ix2 i k)) (fun k => g (ix2 0 k)) j := by
  pointwise [k0_pay4, ↓rowSum_apply]
  rfl

/-- The rows' greatest magnitudes. -/
theorem amax_apply (x : Vec Ideal S256x4096 .bf16) (g : Vec Ideal S1x4096 .f32) (i : Fin 256) (j : Fin 1) :
    k0_pay5 x g (ix2 i j) = amaxAt (fun k => x (ix2 i k)) (fun k => g (ix2 0 k)) := by
  pointwise [k0_pay5, ↓rowMax_apply]
  simp only [norm_apply]
  rfl

/-- The count over any column of maxima. -/
theorem count_of (m : FVec Ideal S256x1 .f32) (i : Fin 256) (j : Fin 1) :
    shapeCast S256x1 (multiReductionI .add [1] S256
      (select (cmpf .olt
          (broadcastTo S256x256 (mulf m (broadcast S256x1 (Scalar.ofBits .f32 0x3B124925#32))) broadcasts_S256x1_S256x256)
          (bitcastToFloat .f32 (shli (minsi (iota .tc S256x256 32 [1] iota_S256x256_d1_w32) (broadcast S256x256 253#32)) (broadcast S256x256 23#32))))
        (broadcast S256x256 0#32) (minsi (iota .tc S256x256 32 [1] iota_S256x256_d1_w32) (broadcast S256x256 1#32)))
      0#32 reduces_S256x256_S256 rfl) shapeCasts_S256_S256x1 (ix2 i j)
      = count (m (ix2 i 0) * Ideal.ofBits .f32 0x3B124925#32) := by
  pointwise [↓rowCount_apply]
  unfold RopeQuant.count
  refine congrArg (fun f => Finset.fold IntOp.addi 0#32 f Finset.univ) (funext fun x => ?_)
  unfold counted
  by_cases h : m (ix2 i 0) * Ideal.ofBits .f32 0x3B124925#32
      < Ideal.ofBits .f32 (IntOp.shli .vector (IntOp.minsi (BitVec.ofNat 32 x.val) 253#32) 23#32)
  · simp only [h, if_true, decide_true, Scalar.select]
    rfl
  · simp only [h, if_false, decide_false, Scalar.select]
    rfl

/-- The rows' counts. -/
theorem count_apply (x : Vec Ideal S256x4096 .bf16) (g : Vec Ideal S1x4096 .f32) (i : Fin 256) (j : Fin 1) :
    k0_pay6 x g (ix2 i j) = count (ratioAt (fun k => x (ix2 i k)) (fun k => g (ix2 0 k))) := by
  unfold k0_pay6
  refine (count_of (k0_pay5 x g) i j).trans ?_
  rw [amax_apply]
  rfl

/-- The rows' scales. -/
theorem scale_apply (x : Vec Ideal S256x4096 .bf16) (g : Vec Ideal S1x4096 .f32) (i : Fin 256) (j : Fin 1) :
    k0_pay10 (k0_pay5 x g) (k0_pay6 x g) (k0_pay7 x g) k0_pay8 (ix2 i j)
      = scaleAt (fun k => x (ix2 i k)) (fun k => g (ix2 0 k)) := by
  pointwise [k0_pay10, k0_pay9, k0_pay7, k0_pay8]
  simp only [amax_apply, count_apply]
  exact (scale_words_row _ _).1

/-- The codes. -/
theorem code_apply (x : Vec Ideal S256x4096 .bf16) (g : Vec Ideal S1x4096 .f32) (i : Fin 256) (j : Fin 4096) :
    k0_pay11 (k0_pay4 x g) (k0_pay5 x g) (k0_pay6 x g) (k0_pay7 x g) k0_pay8 (ix2 i j)
      = codeAt (fun k => x (ix2 i k)) (fun k => g (ix2 0 k)) j := by
  pointwise [k0_pay11, k0_pay9, k0_pay7, k0_pay8]
  simp only [norm_apply, amax_apply, count_apply]
  unfold codeAt
  rw [← (scale_words_row _ _).2]
  rfl

/-- The product, scaled back. -/
theorem prod_apply (x : Vec Ideal S256x4096 .bf16) (g : Vec Ideal S1x4096 .f32) (w : Vec Ideal S4096x2304 .fp8e4m3)
    (ws : Vec Ideal S1x2304 .f32) (i : Fin 256) (n : Fin 2304) :
    k0_pay12 (k0_pay4 x g) (k0_pay5 x g) (k0_pay6 x g) (k0_pay7 x g) k0_pay8 w ws (ix2 i n)
      = prodN (fun k => x (ix2 i k)) (fun k => g (ix2 0 k)) (fun k n => w (ix2 k n)) (fun n => ws (ix2 0 n)) n.val := by
  rw [← prodAt_eq]
  pointwise [k0_pay12]
  simp only [scale_apply, code_apply]
  rfl

/-- The cosines: lane `l` and lane `l + 64` have the same frequency. -/
theorem cos_apply (p : Vec Ideal S256x1 .i32) (f : Vec Ideal S1x128 .f32) (f64 : Fin 64 → EReal)
    (hf : ∀ l : Fin 128, f (ix2 0 l) = f64 ⟨l.val % 64, by omega⟩) (i : Fin 256) (l : Fin 128) :
    k0_pay15 (k0_pay13 p) f (ix2 i l) = Ideal.cos (angleN (p (ix2 i 0)) f64 (l.val % 64)) := by
  pointwise [k0_pay15, k0_pay14, k0_pay13]
  rw [hf, angle_eq]

/-- Whether a lane is in the first half of the head, as the comparison of its number reads. -/
theorem lane_lt (l : Fin 128) : IntOp.cmpi .slt (BitVec.ofNat 32 l.val) 64#32 = BitVec.ofBool (decide (l.val < 64)) := by
  revert l; decide +kernel

/-- The sines, negated on the first half of the head. -/
theorem sin_apply (p : Vec Ideal S256x1 .i32) (f : Vec Ideal S1x128 .f32) (f64 : Fin 64 → EReal)
    (hf : ∀ l : Fin 128, f (ix2 0 l) = f64 ⟨l.val % 64, by omega⟩) (i : Fin 256) (l : Fin 128) :
    k0_pay16 (k0_pay13 p) f (ix2 i l)
      = if l.val < 64 then 0 - Ideal.sin (angleN (p (ix2 i 0)) f64 (l.val % 64)) else Ideal.sin (angleN (p (ix2 i 0)) f64 (l.val % 64)) := by
  pointwise [k0_pay16, k0_pay14, k0_pay13]
  rw [hf, angle_eq, lane_lt]
  by_cases h : l.val < 64 <;> simp [h, Scalar.select]

/-- One head: the slice of the product that starts at column `o`, its rotation by half a head, the cosines and the signed
    sines give the rotary embedding. Stated once for every head. -/
theorem rope_apply (y : FVec Ideal S256x2304 .f32) (co si : FVec Ideal S256x128 .f32) (o : Nat)
    (hs : S256x2304.Slices ![0, o] S256x128) (Y : Nat → EReal) (q : BitVec 32) (f64 : Fin 64 → EReal) (i : Fin 256) (l : Fin 128)
    (ho : o + 128 ≤ 2304)
    (hy : ∀ n : Fin 2304, y (ix2 i n) = Y n.val)
    (hc : ∀ l : Fin 128, co (ix2 i l) = Ideal.cos (angleN q f64 (l.val % 64)))
    (hsi : ∀ l : Fin 128, si (ix2 i l)
      = if l.val < 64 then 0 - Ideal.sin (angleN q f64 (l.val % 64)) else Ideal.sin (angleN q f64 (l.val % 64))) :
    truncf .bf16 (addf (mulf (extractStridedSlice S256x128 ![0, o] y hs) co)
      (mulf (dynamicRotate 1 64#32 none (extractStridedSlice S256x128 ![0, o] y hs) rotates_S256x128_d1) si)) bitsLt_bf16_f32 (ix2 i l)
      = ropeAt Y q f64 o l.val := by
  pointwise []
  rw [hc, hsi, hy, hy]
  exact rope_rolled Y q f64 o l.val l.isLt

/-- The slice that no rotation touches. -/
theorem slice_apply (y : FVec Ideal S256x2304 .f32) (Y : Nat → EReal) (i : Fin 256) (l : Fin 128)
    (hy : ∀ n : Fin 2304, y (ix2 i n) = Y n.val) :
    k0_pay3 y (ix2 i l) = Y (2176 + l.val) := by
  pointwise [k0_pay3]
  rw [hy]

end Cert.KernelIdeal.RowValue

end
-- ==== Proof.KernelHeads.lean ====
/-
  One block of the kernel's queries: sixteen heads, each stored by its own slice, read back at an index.
-/
module

public import proofs.«01_k».proof.Proof.Gen.KernelIdeal.Frame
public import proofs.«01_k».proof.Proof.KernelRows
public import Idealize.ShloMosaic.Lib.Pipeline.ValueKit.Tiles

@[expose] public section

set_option maxRecDepth 16384

noncomputable section

open Idealize.ShloMosaic Idealize.ShloMosaic.TcCoe

namespace Cert.KernelIdeal.RowValue

open Cert.KernelIdeal Cert.KernelIdeal.Gen RopeQuant

/-- A head's slice, where it holds column `j`: column `j` is lane `j % 128` of the head that starts at `j / 128 * 128`. -/
theorem tile (o : Nat) (ho : o % 128 = 0) {w : S256x128.Idx → EReal} {Y : Nat → EReal} {q : BitVec 32} {f64 : Fin 64 → EReal}
    {i : Fin 256} {j : Fin 2048} (h : ∀ l : Fin 128, w (ix2 i l) = ropeAt Y q f64 o l.val) :
    View.TileAt (Val := Elt Ideal) (S := S256x2048) (e := .bf16) (ix2 i j) ![0, o] S256x128.size w (ropeAt Y q f64 (j.val / 128 * 128) (j.val % 128)) := by
  intro x hx
  have h0 : i.val = 0 + (x 0).val := hx 0
  have h1 : j.val = o + (x 1).val := hx 1
  have hl : (x 1).val < 128 := (x 1).isLt
  have e : x = ix2 i ⟨(x 1).val, hl⟩ := by
    funext a
    match a with
    | ⟨0, _⟩ => exact Fin.ext (show (x 0).val = i.val by omega)
    | ⟨1, _⟩ => exact Fin.ext rfl
  rw [e, h ⟨(x 1).val, hl⟩, show j.val / 128 * 128 = o by omega, show j.val % 128 = (x 1).val by omega]

/-- The sixteen stores of the queries, read back at an index. -/
theorem heads_apply (y : FVec Ideal S256x2304 .f32) (p : FVec Ideal S256x1 .f32) (f : Vec Ideal S1x128 .f32)
    (Y : Nat → EReal) (q : BitVec 32) (f64 : Fin 64 → EReal) (i : Fin 256) (j : Fin 2048)
    (hy : ∀ n : Fin 2304, y (ix2 i n) = Y n.val)
    (hc : ∀ l : Fin 128, k0_pay15 p f (ix2 i l) = Ideal.cos (angleN q f64 (l.val % 64)))
    (hsi : ∀ l : Fin 128, k0_pay16 p f (ix2 i l)
      = if l.val < 64 then 0 - Ideal.sin (angleN q f64 (l.val % 64)) else Ideal.sin (angleN q f64 (l.val % 64))) :
    View.canon (Val := Elt Ideal) (s := S256x2048) (e := .bf16)
      [⟨r0_21, k0_pay1 y (k0_pay15 p f) (k0_pay16 p f)⟩, ⟨r0_20, k0_pay33 y (k0_pay15 p f) (k0_pay16 p f)⟩,
       ⟨r0_19, k0_pay32 y (k0_pay15 p f) (k0_pay16 p f)⟩, ⟨r0_18, k0_pay31 y (k0_pay15 p f) (k0_pay16 p f)⟩,
       ⟨r0_17, k0_pay30 y (k0_pay15 p f) (k0_pay16 p f)⟩, ⟨r0_16, k0_pay29 y (k0_pay15 p f) (k0_pay16 p f)⟩,
       ⟨r0_15, k0_pay28 (k0_pay27 y (k0_pay15 p f) (k0_pay16 p f))⟩,
       ⟨r0_14, k0_pay26 y (k0_pay15 p f) (k0_pay16 p f)⟩, ⟨r0_13, k0_pay25 y (k0_pay15 p f) (k0_pay16 p f)⟩,
       ⟨r0_12, k0_pay24 y (k0_pay15 p f) (k0_pay16 p f)⟩, ⟨r0_11, k0_pay23 y (k0_pay15 p f) (k0_pay16 p f)⟩,
       ⟨r0_10, k0_pay22 (k0_pay15 p f) (k0_pay16 p f) (k0_pay21 y)⟩, ⟨r0_9, k0_pay20 y p f⟩, ⟨r0_8, k0_pay19 y p f⟩,
       ⟨r0_7, k0_pay18 y p f⟩, ⟨r0_6, k0_pay17 y p f⟩] (ix2 i j)
      = ropeAt Y q f64 (j.val / 128 * 128) (j.val % 128) := by
  refine View.canon_eq_of_allAt _ _ _ (cover0_6 _ _ _ _ _ _ _ _ _ _ _ _ _ _ _ _ _) ?_
  refine View.allAt_cons_unit _ _ _ _ _ (tile 1920 (by decide) (fun l => rope_apply y (k0_pay15 p f) (k0_pay16 p f) 1920 _ Y q f64 i l (by decide) hy hc hsi)) ?_
  refine View.allAt_cons_unit _ _ _ _ _ (tile 1792 (by decide) (fun l => rope_apply y (k0_pay15 p f) (k0_pay16 p f) 1792 _ Y q f64 i l (by decide) hy hc hsi)) ?_
  refine View.allAt_cons_unit _ _ _ _ _ (tile 1664 (by decide) (fun l => rope_apply y (k0_pay15 p f) (k0_pay16 p f) 1664 _ Y q f64 i l (by decide) hy hc hsi)) ?_
  refine View.allAt_cons_unit _ _ _ _ _ (tile 1536 (by decide) (fun l => rope_apply y (k0_pay15 p f) (k0_pay16 p f) 1536 _ Y q f64 i l (by decide) hy hc hsi)) ?_
  refine View.allAt_cons_unit _ _ _ _ _ (tile 1408 (by decide) (fun l => rope_apply y (k0_pay15 p f) (k0_pay16 p f) 1408 _ Y q f64 i l (by decide) hy hc hsi)) ?_
  refine View.allAt_cons_unit _ _ _ _ _ (tile 1280 (by decide) (fun l => rope_apply y (k0_pay15 p f) (k0_pay16 p f) 1280 _ Y q f64 i l (by decide) hy hc hsi)) ?_
  refine View.allAt_cons_unit _ _ _ _ _ (tile 1152 (by decide) (fun l => rope_apply y (k0_pay15 p f) (k0_pay16 p f) 1152 slices_S256x2304_o0_1152_S256x128 Y q f64 i l (by decide) hy hc hsi)) ?_
  refine View.allAt_cons_unit _ _ _ _ _ (tile 1024 (by decide) (fun l => rope_apply y (k0_pay15 p f) (k0_pay16 p f) 1024 _ Y q f64 i l (by decide) hy hc hsi)) ?_
  refine View.allAt_cons_unit _ _ _ _ _ (tile 896 (by decide) (fun l => rope_apply y (k0_pay15 p f) (k0_pay16 p f) 896 _ Y q f64 i l (by decide) hy hc hsi)) ?_
  refine View.allAt_cons_unit _ _ _ _ _ (tile 768 (by decide) (fun l => rope_apply y (k0_pay15 p f) (k0_pay16 p f) 768 _ Y q f64 i l (by decide) hy hc hsi)) ?_
  refine View.allAt_cons_unit _ _ _ _ _ (tile 640 (by decide) (fun l => rope_apply y (k0_pay15 p f) (k0_pay16 p f) 640 _ Y q f64 i l (by decide) hy hc hsi)) ?_
  refine View.allAt_cons_unit _ _ _ _ _ (tile 512 (by decide) (fun l => rope_apply y (k0_pay15 p f) (k0_pay16 p f) 512 slices_S256x2304_o0_512_S256x128 Y q f64 i l (by decide) hy hc hsi)) ?_
  refine View.allAt_cons_unit _ _ _ _ _ (tile 384 (by decide) (fun l => rope_apply y (k0_pay15 p f) (k0_pay16 p f) 384 _ Y q f64 i l (by decide) hy hc hsi)) ?_
  refine View.allAt_cons_unit _ _ _ _ _ (tile 256 (by decide) (fun l => rope_apply y (k0_pay15 p f) (k0_pay16 p f) 256 _ Y q f64 i l (by decide) hy hc hsi)) ?_
  refine View.allAt_cons_unit _ _ _ _ _ (tile 128 (by decide) (fun l => rope_apply y (k0_pay15 p f) (k0_pay16 p f) 128 _ Y q f64 i l (by decide) hy hc hsi)) ?_
  refine View.allAt_cons_unit _ _ _ _ _ (tile 0 (by decide) (fun l => rope_apply y (k0_pay15 p f) (k0_pay16 p f) 0 _ Y q f64 i l (by decide) hy hc hsi)) ?_
  exact View.allAt_nil _ _

/-- The keys: the one head that starts at column 2048. -/
theorem key_apply (y : FVec Ideal S256x2304 .f32) (co si : FVec Ideal S256x128 .f32)
    (Y : Nat → EReal) (q : BitVec 32) (f64 : Fin 64 → EReal) (i : Fin 256) (l : Fin 128)
    (hy : ∀ n : Fin 2304, y (ix2 i n) = Y n.val)
    (hc : ∀ l : Fin 128, co (ix2 i l) = Ideal.cos (angleN q f64 (l.val % 64)))
    (hsi : ∀ l : Fin 128, si (ix2 i l)
      = if l.val < 64 then 0 - Ideal.sin (angleN q f64 (l.val % 64)) else Ideal.sin (angleN q f64 (l.val % 64))) :
    k0_pay2 y co si (ix2 i l) = ropeAt Y q f64 2048 l.val :=
  rope_apply y co si 2048 _ Y q f64 i l (by decide) hy hc hsi

end Cert.KernelIdeal.RowValue

end
-- ==== Proof.Results.lean ====
/-
  The five result arrays as functions of the five arguments, each read at an index, in terms of one token's row
  (RowSpec.lean). No program is mentioned here.
-/
module

public import proofs.«01_k».proof.Proof.RowSpec

@[expose] public section

set_option maxRecDepth 16384

noncomputable section

open Idealize.ShloMosaic Idealize.ShloMosaic.TcCoe

namespace RopeQuant

variable (X : Fin 32768 → Fin 4096 → EReal) (g : Fin 4096 → EReal) (w : Fin 4096 → Fin 2304 → EReal) (ws : Fin 2304 → EReal)
  (p : Fin 32768 → BitVec 32) (f : Fin 64 → EReal)

/-- The queries: sixteen heads of 128 columns, each rotated. -/
def queryRes (i : Fin 32768) (j : Nat) : EReal :=
  ropeAt (prodN (X i) g w ws) (p i) f (j / 128 * 128) (j % 128)

/-- The keys: the head that starts at column 2048, rotated. -/
def keyRes (i : Fin 32768) (j : Nat) : EReal := ropeAt (prodN (X i) g w ws) (p i) f 2048 j

/-- The values: the columns from 2176 on. -/
def valueRes (i : Fin 32768) (j : Nat) : EReal := prodN (X i) g w ws (2176 + j)

/-- Code `j` of row `i`. -/
def codeRes (X : Fin 32768 → Fin 4096 → EReal) (g : Fin 4096 → EReal) (i : Fin 32768) (j : Fin 4096) : EReal := codeAt (X i) g j

/-- The scale of row `i`. -/
def scaleRes (X : Fin 32768 → Fin 4096 → EReal) (g : Fin 4096 → EReal) (i : Fin 32768) : EReal := scaleAt (X i) g

/-- A lane's frequency number. -/
theorem lane_mod (l : Fin 128) : l.val % 64 < 64 := Nat.mod_lt _ (by decide)

/-- A matrix index is its two coordinates. -/
theorem idx2 {a b : Nat} (y : (⟨2, ![a, b]⟩ : Shape).Idx) : ∃ (i : Fin a) (j : Fin b), y = ix2 i j :=
  ⟨y 0, y 1, funext fun k => by match k with | ⟨0, _⟩ => rfl | ⟨1, _⟩ => rfl⟩

end RopeQuant

end
-- ==== Proof.KernelBlock.lean ====
/-
  What one grid point of the kernel leaves in each of its five output blocks, read at an index of the block.
-/
module

public import proofs.«01_k».proof.Proof.KernelHeads
public import proofs.«01_k».proof.Proof.Results

@[expose] public section

set_option maxRecDepth 16384

noncomputable section

open Idealize.ShloMosaic Idealize.ShloMosaic.TcCoe

namespace Cert.KernelIdeal.RowValue

open Cert.KernelIdeal Cert.KernelIdeal.Gen RopeQuant

theorem hz : (![0, 0] : Fin 2 → Nat) = fun _ => 0 := funext fun a => by fin_cases a <;> rfl

variable (x0 : Vec Ideal S256x4096 .bf16) (x1 : Vec Ideal S1x4096 .f32) (x2 : Vec Ideal S4096x2304 .fp8e4m3) (x3 : Vec Ideal S1x2304 .f32)
  (x4 : Vec Ideal S256x1 .i32) (x5 : Vec Ideal S1x128 .f32)

/-- The block's product, at an index. -/
theorem prod_block (i : Fin 256) (n : Fin 2304) : k0_pay39 x0 x1 x2 x3 x4 x5 (ix2 i n)
    = prodN (fun k => x0 (ix2 i k)) (fun k => x1 (ix2 0 k)) (fun k n => x2 (ix2 k n)) (fun n => x3 (ix2 0 n)) n.val := by
  unfold k0_pay39 k0_pay38 k0_pay37 k0_pay36 k0_pay35 k0_pay34
  rw [View.ld_unit_zero hz, View.ld_unit_zero hz, View.ld_unit_zero hz, View.ld_unit_zero hz]
  exact prod_apply x0 x1 x2 x3 i n

/-- The block's scales, at an index. -/
theorem scale_block (i : Fin 256) (j : Fin 1) : out0_10 x0 x1 x2 x3 x4 x5 (ix2 i j)
    = scaleAt (fun k => x0 (ix2 i k)) (fun k => x1 (ix2 0 k)) := by
  unfold out0_10 k0_pay38 k0_pay37 k0_pay36 k0_pay35
  rw [View.canon_unit_zero hz, View.ld_unit_zero hz, View.ld_unit_zero hz]
  exact scale_apply x0 x1 i j

/-- The block's codes, at an index. -/
theorem code_block (i : Fin 256) (j : Fin 4096) : out0_9 x0 x1 x2 x3 x4 x5 (ix2 i j)
    = codeAt (fun k => x0 (ix2 i k)) (fun k => x1 (ix2 0 k)) j := by
  unfold out0_9 k0_pay38 k0_pay37 k0_pay36 k0_pay35 k0_pay34
  rw [View.canon_unit_zero hz, View.ld_unit_zero hz, View.ld_unit_zero hz]
  exact code_apply x0 x1 i j

/-- The block's values, at an index. -/
theorem value_block (i : Fin 256) (j : Fin 128) : out0_8 x0 x1 x2 x3 x4 x5 (ix2 i j)
    = prodN (fun k => x0 (ix2 i k)) (fun k => x1 (ix2 0 k)) (fun k n => x2 (ix2 k n)) (fun n => x3 (ix2 0 n)) (2176 + j.val) := by
  unfold out0_8
  rw [View.canon_unit_zero hz]
  exact slice_apply _ _ i j fun n => prod_block x0 x1 x2 x3 x4 x5 i n

variable (f64 : Fin 64 → EReal) (hf : ∀ l : Fin 128, x5 (ix2 0 l) = f64 ⟨l.val % 64, lane_mod l⟩)

include hf in
/-- The block's cosines, at an index. -/
theorem cos_block (i : Fin 256) (l : Fin 128) : k0_pay15 (k0_pay40 x0 x1 x2 x3 x4 x5) (View.ld x5 r0_5) (ix2 i l)
    = Ideal.cos (angleN (x4 (ix2 i 0)) f64 (l.val % 64)) := by
  unfold k0_pay40
  rw [View.ld_unit_zero hz, View.ld_unit_zero hz]
  exact cos_apply x4 x5 f64 hf i l

include hf in
/-- The block's signed sines, at an index. -/
theorem sin_block (i : Fin 256) (l : Fin 128) : k0_pay16 (k0_pay40 x0 x1 x2 x3 x4 x5) (View.ld x5 r0_5) (ix2 i l)
    = if l.val < 64 then 0 - Ideal.sin (angleN (x4 (ix2 i 0)) f64 (l.val % 64)) else Ideal.sin (angleN (x4 (ix2 i 0)) f64 (l.val % 64)) := by
  unfold k0_pay40
  rw [View.ld_unit_zero hz, View.ld_unit_zero hz]
  exact sin_apply x4 x5 f64 hf i l

include hf in
/-- The block's keys, at an index. -/
theorem key_block (i : Fin 256) (j : Fin 128) : out0_7 x0 x1 x2 x3 x4 x5 (ix2 i j)
    = ropeAt (prodN (fun k => x0 (ix2 i k)) (fun k => x1 (ix2 0 k)) (fun k n => x2 (ix2 k n)) (fun n => x3 (ix2 0 n)))
        (x4 (ix2 i 0)) f64 2048 j.val := by
  unfold out0_7
  rw [View.canon_unit_zero hz]
  unfold k0_pay41 k0_pay42
  exact key_apply _ _ _ _ _ _ i j (fun n => prod_block x0 x1 x2 x3 x4 x5 i n)
    (cos_block x0 x1 x2 x3 x4 x5 f64 hf i) (sin_block x0 x1 x2 x3 x4 x5 f64 hf i)

include hf in
/-- The block's queries, at an index. -/
theorem query_block (i : Fin 256) (j : Fin 2048) : out0_6 x0 x1 x2 x3 x4 x5 (ix2 i j)
    = ropeAt (prodN (fun k => x0 (ix2 i k)) (fun k => x1 (ix2 0 k)) (fun k n => x2 (ix2 k n)) (fun n => x3 (ix2 0 n)))
        (x4 (ix2 i 0)) f64 (j.val / 128 * 128) (j.val % 128) := by
  unfold out0_6 k0_pay41 k0_pay42
  exact heads_apply _ _ _ _ _ _ i j (fun n => prod_block x0 x1 x2 x3 x4 x5 i n)
    (cos_block x0 x1 x2 x3 x4 x5 f64 hf i) (sin_block x0 x1 x2 x3 x4 x5 f64 hf i)

end Cert.KernelIdeal.RowValue

end
-- ==== Proof.KernelGrid.lean ====
/-
  The kernel's grid in coordinates: grid point `t` reads and writes the rows from `256 * t` on of the token arrays, and the
  whole of the others; the written blocks cover each result.
-/
module

public import proofs.«01_k».proof.Proof.KernelBlock
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.KernelIdeal.RowValue

open Cert.KernelIdeal Cert.KernelIdeal.Gen RopeQuant

variable (m : (ℓ : Loc nD τ sig) → Buf (Elt Ideal) ℓ)

theorem index_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem index_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem index_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem index_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem index_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem points : cfg0.N = 128 := N_0

/-- Row `i` of grid point `t`'s block, as a row of the token arrays. -/
def row (t : Fin cfg0.N) (i : Fin 256) : Fin 32768 :=
  ⟨t.val * 256 + i.val, by have := t.isLt; have := points; have := i.isLt; omega⟩

theorem emb_0 (t : Fin cfg0.N) (i : Fin 256) (j : Fin 4096) : ((cfg0.win 0).blk t).view.emb (ix2 i j : S256x4096.Idx) = ix2 (row t i) j := by
  obtain ⟨e0, e1⟩ := index_0 t
  funext a; apply Fin.ext
  match a with
  | ⟨0, _⟩ => show win0_0.index t (0 : Fin 2) * 256 + 1 * i.val = t.val * 256 + i.val; omega
  | ⟨1, _⟩ => show win0_0.index t (1 : Fin 2) * 4096 + 1 * j.val = j.val; omega

theorem emb_4 (t : Fin cfg0.N) (i : Fin 256) (j : Fin 1) : ((cfg0.win 4).blk t).view.emb (ix2 i j : S256x1.Idx) = ix2 (row t i) j := by
  obtain ⟨e0, e1⟩ := index_4 t
  funext a; apply Fin.ext
  match a with
  | ⟨0, _⟩ => show win0_4.index t (0 : Fin 2) * 256 + 1 * i.val = t.val * 256 + i.val; omega
  | ⟨1, _⟩ => show win0_4.index t (1 : Fin 2) * 1 + 1 * j.val = j.val; omega

theorem emb_6 (t : Fin cfg0.N) (i : Fin 256) (j : Fin 2048) : ((cfg0.win 6).blk t).view.emb (ix2 i j : S256x2048.Idx) = ix2 (row t i) j := by
  obtain ⟨e0, e1⟩ := index_6 t
  funext a; apply Fin.ext
  match a with
  | ⟨0, _⟩ => show win0_6.index t (0 : Fin 2) * 256 + 1 * i.val = t.val * 256 + i.val; omega
  | ⟨1, _⟩ => show win0_6.index t (1 : Fin 2) * 2048 + 1 * j.val = j.val; omega

theorem emb_7 (t : Fin cfg0.N) (i : Fin 256) (j : Fin 128) : ((cfg0.win 7).blk t).view.emb (ix2 i j : S256x128.Idx) = ix2 (row t i) j := by
  obtain ⟨e0, e1⟩ := index_7 t
  funext a; apply Fin.ext
  match a with
  | ⟨0, _⟩ => show win0_7.index t (0 : Fin 2) * 256 + 1 * i.val = t.val * 256 + i.val; omega
  | ⟨1, _⟩ => show win0_7.index t (1 : Fin 2) * 128 + 1 * j.val = j.val; omega

theorem emb_8 (t : Fin cfg0.N) (i : Fin 256) (j : Fin 128) : ((cfg0.win 8).blk t).view.emb (ix2 i j : S256x128.Idx) = ix2 (row t i) j := by
  obtain ⟨e0, e1⟩ := index_8 t
  funext a; apply Fin.ext
  match a with
  | ⟨0, _⟩ => show win0_8.index t (0 : Fin 2) * 256 + 1 * i.val = t.val * 256 + i.val; omega
  | ⟨1, _⟩ => show win0_8.index t (1 : Fin 2) * 128 + 1 * j.val = j.val; omega

theorem emb_9 (t : Fin cfg0.N) (i : Fin 256) (j : Fin 4096) : ((cfg0.win 9).blk t).view.emb (ix2 i j : S256x4096.Idx) = ix2 (row t i) j := by
  obtain ⟨e0, e1⟩ := index_9 t
  funext a; apply Fin.ext
  match a with
  | ⟨0, _⟩ => show win0_9.index t (0 : Fin 2) * 256 + 1 * i.val = t.val * 256 + i.val; omega
  | ⟨1, _⟩ => show win0_9.index t (1 : Fin 2) * 4096 + 1 * j.val = j.val; omega

theorem emb_10 (t : Fin cfg0.N) (i : Fin 256) (j : Fin 1) : ((cfg0.win 10).blk t).view.emb (ix2 i j : S256x1.Idx) = ix2 (row t i) j := by
  obtain ⟨e0, e1⟩ := index_10 t
  funext a; apply Fin.ext
  match a with
  | ⟨0, _⟩ => show win0_10.index t (0 : Fin 2) * 256 + 1 * i.val = t.val * 256 + i.val; omega
  | ⟨1, _⟩ => show win0_10.index t (1 : Fin 2) * 1 + 1 * j.val = j.val; omega

theorem emb_1 (t : Fin cfg0.N) (i : Fin 1) (j : Fin 4096) : ((cfg0.win 1).blk t).view.emb (ix2 i j : S1x4096.Idx) = ix2 i j := by
  obtain ⟨e0, e1⟩ := index_1 t
  funext a; apply Fin.ext
  match a with
  | ⟨0, _⟩ => show win0_1.index t (0 : Fin 2) * 1 + 1 * i.val = i.val; omega
  | ⟨1, _⟩ => show win0_1.index t (1 : Fin 2) * 4096 + 1 * j.val = j.val; omega

theorem emb_2 (t : Fin cfg0.N) (i : Fin 4096) (j : Fin 2304) : ((cfg0.win 2).blk t).view.emb (ix2 i j : S4096x2304.Idx) = ix2 i j := by
  obtain ⟨e0, e1⟩ := index_2 t
  funext a; apply Fin.ext
  match a with
  | ⟨0, _⟩ => show win0_2.index t (0 : Fin 2) * 4096 + 1 * i.val = i.val; omega
  | ⟨1, _⟩ => show win0_2.index t (1 : Fin 2) * 2304 + 1 * j.val = j.val; omega

theorem emb_3 (t : Fin cfg0.N) (i : Fin 1) (j : Fin 2304) : ((cfg0.win 3).blk t).view.emb (ix2 i j : S1x2304.Idx) = ix2 i j := by
  obtain ⟨e0, e1⟩ := index_3 t
  funext a; apply Fin.ext
  match a with
  | ⟨0, _⟩ => show win0_3.index t (0 : Fin 2) * 1 + 1 * i.val = i.val; omega
  | ⟨1, _⟩ => show win0_3.index t (1 : Fin 2) * 2304 + 1 * j.val = j.val; omega

theorem emb_5 (t : Fin cfg0.N) (i : Fin 1) (j : Fin 128) : ((cfg0.win 5).blk t).view.emb (ix2 i j : S1x128.Idx) = ix2 i j := by
  obtain ⟨e0, e1⟩ := index_5 t
  funext a; apply Fin.ext
  match a with
  | ⟨0, _⟩ => show win0_5.index t (0 : Fin 2) * 1 + 1 * i.val = i.val; omega
  | ⟨1, _⟩ => show win0_5.index t (1 : Fin 2) * 128 + 1 * j.val = j.val; omega

theorem block_0 (c : Dev nD) (t : Fin cfg0.N) (i : Fin 256) (j : Fin 4096) : iblk m c 0 t (ix2 i j : S256x4096.Idx) = V m c main_v12 (ix2 (row t i) j) := by
  show V m c main_v12 (((cfg0.win 0).blk t).view.emb (ix2 i j : S256x4096.Idx)) = _
  rw [emb_0]

theorem block_1 (c : Dev nD) (t : Fin cfg0.N) (i : Fin 1) (j : Fin 4096) : iblk m c 1 t (ix2 i j : S1x4096.Idx) = V m c main_v13 (ix2 i j) := by
  show V m c main_v13 (((cfg0.win 1).blk t).view.emb (ix2 i j : S1x4096.Idx)) = _
  rw [emb_1]

theorem block_2 (c : Dev nD) (t : Fin cfg0.N) (i : Fin 4096) (j : Fin 2304) : iblk m c 2 t (ix2 i j : S4096x2304.Idx) = V m c main_arg2 (ix2 i j) := by
  show V m c main_arg2 (((cfg0.win 2).blk t).view.emb (ix2 i j : S4096x2304.Idx)) = _
  rw [emb_2]

theorem block_3 (c : Dev nD) (t : Fin cfg0.N) (i : Fin 1) (j : Fin 2304) : iblk m c 3 t (ix2 i j : S1x2304.Idx) = V m c main_v14 (ix2 i j) := by
  show V m c main_v14 (((cfg0.win 3).blk t).view.emb (ix2 i j : S1x2304.Idx)) = _
  rw [emb_3]

theorem block_4 (c : Dev nD) (t : Fin cfg0.N) (i : Fin 256) (j : Fin 1) : iblk m c 4 t (ix2 i j : S256x1.Idx) = V m c main_v15 (ix2 (row t i) j) := by
  show V m c main_v15 (((cfg0.win 4).blk t).view.emb (ix2 i j : S256x1.Idx)) = _
  rw [emb_4]

theorem block_5 (c : Dev nD) (t : Fin cfg0.N) (i : Fin 1) (j : Fin 128) : iblk m c 5 t (ix2 i j : S1x128.Idx) = V m c main_v11 (ix2 i j) := by
  show V m c main_v11 (((cfg0.win 5).blk t).view.emb (ix2 i j : S1x128.Idx)) = _
  rw [emb_5]

end Cert.KernelIdeal.RowValue

end
-- ==== Proof.KernelFinal.lean ====
/-
  The kernel's five result arrays after the run, as the token-row functions (Results.lean) of the arrays that the grid
  reads.
-/
module

public import proofs.«01_k».proof.Proof.KernelGrid
public import proofs.«01_k».proof.Proof.Results

@[expose] public section

set_option maxRecDepth 16384

noncomputable section

open Idealize.ShloMosaic Idealize.ShloMosaic.TcCoe Idealize.SL.Sem
open Idealize.ShloMosaic.Pipeline (Dat)

namespace Cert.KernelIdeal.RowValue

open Cert.KernelIdeal Cert.KernelIdeal.Gen RopeQuant

variable (m : (ℓ : Loc nD τ sig) → Buf (Elt Ideal) ℓ) (c : Dev nD)

/-- Every row is a row of some grid point's block. -/
theorem row_surj (i : Fin 32768) : ∃ (t : Fin cfg0.N) (k : Fin 256), i = row t k := by
  have := points
  have := i.isLt
  exact ⟨⟨i.val / 256, by omega⟩, ⟨i.val % 256, by omega⟩, Fin.ext (show i.val = i.val / 256 * 256 + i.val % 256 by omega)⟩

theorem cover_6 (y : S32768x2048.Idx) : ∃ t : Fin cfg0.N, (cfg0.win 6).flush t = true ∧ y ∈ ((cfg0.win 6).blk t).view.set := by
  obtain ⟨i, j, rfl⟩ := idx2 y
  obtain ⟨t, k, rfl⟩ := row_surj i
  refine ⟨t, flush0_6 _, ?_⟩
  have h := ((cfg0.win 6).blk t).view.emb_mem_set (ix2 k j : S256x2048.Idx)
  rwa [emb_6] at h

theorem cover_7 (y : S32768x128.Idx) : ∃ t : Fin cfg0.N, (cfg0.win 7).flush t = true ∧ y ∈ ((cfg0.win 7).blk t).view.set := by
  obtain ⟨i, j, rfl⟩ := idx2 y
  obtain ⟨t, k, rfl⟩ := row_surj i
  refine ⟨t, flush0_7 _, ?_⟩
  have h := ((cfg0.win 7).blk t).view.emb_mem_set (ix2 k j : S256x128.Idx)
  rwa [emb_7] at h

theorem cover_8 (y : S32768x128.Idx) : ∃ t : Fin cfg0.N, (cfg0.win 8).flush t = true ∧ y ∈ ((cfg0.win 8).blk t).view.set := by
  obtain ⟨i, j, rfl⟩ := idx2 y
  obtain ⟨t, k, rfl⟩ := row_surj i
  refine ⟨t, flush0_8 _, ?_⟩
  have h := ((cfg0.win 8).blk t).view.emb_mem_set (ix2 k j : S256x128.Idx)
  rwa [emb_8] at h

theorem cover_9 (y : S32768x4096.Idx) : ∃ t : Fin cfg0.N, (cfg0.win 9).flush t = true ∧ y ∈ ((cfg0.win 9).blk t).view.set := by
  obtain ⟨i, j, rfl⟩ := idx2 y
  obtain ⟨t, k, rfl⟩ := row_surj i
  refine ⟨t, flush0_9 _, ?_⟩
  have h := ((cfg0.win 9).blk t).view.emb_mem_set (ix2 k j : S256x4096.Idx)
  rwa [emb_9] at h

theorem cover_10 (y : S32768x1.Idx) : ∃ t : Fin cfg0.N, (cfg0.win 10).flush t = true ∧ y ∈ ((cfg0.win 10).blk t).view.set := by
  obtain ⟨i, j, rfl⟩ := idx2 y
  obtain ⟨t, k, rfl⟩ := row_surj i
  refine ⟨t, flush0_10 _, ?_⟩
  have h := ((cfg0.win 10).blk t).view.emb_mem_set (ix2 k j : S256x1.Idx)
  rwa [emb_10] at h

variable (f64 : Fin 64 → EReal) (hf : ∀ l : Fin 128, V m c main_v11 (ix2 0 l) = f64 ⟨l.val % 64, lane_mod l⟩)

include hf in
/-- The queries after the run. -/
theorem final_6 : (dats m 0 c).arrAt 6 cfg0.N = fun y : S32768x2048.Idx =>
    queryRes (fun i k => V m c main_v12 (ix2 i k)) (fun k => V m c main_v13 (ix2 0 k))
      (fun k n => V m c main_arg2 (ix2 k n)) (fun n => V m c main_v14 (ix2 0 n)) (fun i => V m c main_v15 (ix2 i 0)) f64 (y 0) (y 1).val := by
  refine (dats m 0 c).arrAt_eq_of_cover 6 _ (fun t _ => ?_) cover_6
  show (cfg0.win 6).cut (grid0.coords t) ((dats m 0 c).after 6 t) = _
  rw [after0_6]
  funext y
  obtain ⟨i, j, rfl⟩ := idx2 (a := 256) (b := 2048) y
  refine (query_block (iblk m c 0 t) (iblk m c 1 t) (iblk m c 2 t) (iblk m c 3 t) (iblk m c 4 t) (iblk m c 5 t) f64 (fun l => (block_5 m c t 0 l).trans (hf l)) i j).trans ?_
  simp only [block_0, block_1, block_2, block_3, block_4]
  refine Eq.symm ((congrArg (fun y : S32768x2048.Idx => queryRes (fun i k => V m c main_v12 (ix2 i k)) (fun k => V m c main_v13 (ix2 0 k))
      (fun k n => V m c main_arg2 (ix2 k n)) (fun n => V m c main_v14 (ix2 0 n)) (fun i => V m c main_v15 (ix2 i 0)) f64 (y 0) (y 1).val) (emb_6 t i j)).trans ?_)
  rfl

include hf in
/-- The keys after the run. -/
theorem final_7 : (dats m 0 c).arrAt 7 cfg0.N = fun y : S32768x128.Idx =>
    keyRes (fun i k => V m c main_v12 (ix2 i k)) (fun k => V m c main_v13 (ix2 0 k))
      (fun k n => V m c main_arg2 (ix2 k n)) (fun n => V m c main_v14 (ix2 0 n)) (fun i => V m c main_v15 (ix2 i 0)) f64 (y 0) (y 1).val := by
  refine (dats m 0 c).arrAt_eq_of_cover 7 _ (fun t _ => ?_) cover_7
  show (cfg0.win 7).cut (grid0.coords t) ((dats m 0 c).after 7 t) = _
  rw [after0_7]
  funext y
  obtain ⟨i, j, rfl⟩ := idx2 (a := 256) (b := 128) y
  refine (key_block (iblk m c 0 t) (iblk m c 1 t) (iblk m c 2 t) (iblk m c 3 t) (iblk m c 4 t) (iblk m c 5 t) f64 (fun l => (block_5 m c t 0 l).trans (hf l)) i j).trans ?_
  simp only [block_0, block_1, block_2, block_3, block_4]
  refine Eq.symm ((congrArg (fun y : S32768x128.Idx => keyRes (fun i k => V m c main_v12 (ix2 i k)) (fun k => V m c main_v13 (ix2 0 k))
      (fun k n => V m c main_arg2 (ix2 k n)) (fun n => V m c main_v14 (ix2 0 n)) (fun i => V m c main_v15 (ix2 i 0)) f64 (y 0) (y 1).val) (emb_7 t i j)).trans ?_)
  rfl

/-- The values after the run. -/
theorem final_8 : (dats m 0 c).arrAt 8 cfg0.N = fun y : S32768x128.Idx =>
    valueRes (fun i k => V m c main_v12 (ix2 i k)) (fun k => V m c main_v13 (ix2 0 k))
      (fun k n => V m c main_arg2 (ix2 k n)) (fun n => V m c main_v14 (ix2 0 n)) (y 0) (y 1).val := by
  refine (dats m 0 c).arrAt_eq_of_cover 8 _ (fun t _ => ?_) cover_8
  show (cfg0.win 8).cut (grid0.coords t) ((dats m 0 c).after 8 t) = _
  rw [after0_8]
  funext y
  obtain ⟨i, j, rfl⟩ := idx2 (a := 256) (b := 128) y
  refine (value_block (iblk m c 0 t) (iblk m c 1 t) (iblk m c 2 t) (iblk m c 3 t) (iblk m c 4 t) (iblk m c 5 t) i j).trans ?_
  simp only [block_0, block_1, block_2, block_3]
  refine Eq.symm ((congrArg (fun y : S32768x128.Idx => valueRes (fun i k => V m c main_v12 (ix2 i k)) (fun k => V m c main_v13 (ix2 0 k))
      (fun k n => V m c main_arg2 (ix2 k n)) (fun n => V m c main_v14 (ix2 0 n)) (y 0) (y 1).val) (emb_8 t i j)).trans ?_)
  rfl

/-- The codes after the run. -/
theorem final_9 : (dats m 0 c).arrAt 9 cfg0.N = fun y : S32768x4096.Idx =>
    codeAt (fun k => V m c main_v12 (ix2 (y 0) k)) (fun k => V m c main_v13 (ix2 0 k)) (y 1) := by
  refine (dats m 0 c).arrAt_eq_of_cover 9 _ (fun t _ => ?_) cover_9
  show (cfg0.win 9).cut (grid0.coords t) ((dats m 0 c).after 9 t) = _
  rw [after0_9]
  funext y
  obtain ⟨i, j, rfl⟩ := idx2 (a := 256) (b := 4096) y
  refine (code_block (iblk m c 0 t) (iblk m c 1 t) (iblk m c 2 t) (iblk m c 3 t) (iblk m c 4 t) (iblk m c 5 t) i j).trans ?_
  simp only [block_0, block_1]
  refine Eq.symm ((congrArg (fun y : S32768x4096.Idx => codeAt (fun k => V m c main_v12 (ix2 (y 0) k)) (fun k => V m c main_v13 (ix2 0 k)) (y 1)) (emb_9 t i j)).trans ?_)
  rfl

/-- The scales after the run. -/
theorem final_10 : (dats m 0 c).arrAt 10 cfg0.N = fun y : S32768x1.Idx =>
    scaleAt (fun k => V m c main_v12 (ix2 (y 0) k)) (fun k => V m c main_v13 (ix2 0 k)) := by
  refine (dats m 0 c).arrAt_eq_of_cover 10 _ (fun t _ => ?_) cover_10
  show (cfg0.win 10).cut (grid0.coords t) ((dats m 0 c).after 10 t) = _
  rw [after0_10]
  funext y
  obtain ⟨i, j, rfl⟩ := idx2 (a := 256) (b := 1) y
  refine (scale_block (iblk m c 0 t) (iblk m c 1 t) (iblk m c 2 t) (iblk m c 3 t) (iblk m c 4 t) (iblk m c 5 t) i j).trans ?_
  simp only [block_0, block_1]
  refine Eq.symm ((congrArg (fun y : S32768x1.Idx => scaleAt (fun k => V m c main_v12 (ix2 (y 0) k)) (fun k => V m c main_v13 (ix2 0 k))) (emb_10 t i j)).trans ?_)
  rfl

end Cert.KernelIdeal.RowValue

end
-- ==== Proof.KernelHost.lean ====
/-
  What the kernel's host operations leave in the arrays that the grid reads: reshaped arguments, and the inverse frequencies
  written twice side by side.
-/
module

public import proofs.«01_k».proof.Proof.KernelFinal
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.RowValue

open Cert.KernelIdeal Cert.KernelIdeal.Gen RopeQuant

variable (m : (ℓ : Loc nD τ sig) → Buf (Elt Ideal) ℓ) (c : Dev nD)

/-- The inverse frequencies of the rotary embedding. -/
def freq : FVec Ideal S64 .f32 :=
  Host.powf (broadcastInDim S64 ![] bcast_S_S64 (constant S_ .f32 0x461C4000#32))
    (Host.divf (Host.negf (addf (broadcastInDim S64 ![] bcast_S_S64 (constant S_ .f32 0x00000000#32))
      (mulf (broadcastInDim S64 ![] bcast_S_S64 (constant S_ .f32 0x40000000#32)) (sitofp .f32 (iotaInDim S64 32 0)))))
      (broadcastInDim S64 ![] bcast_S_S64 (constant S_ .f32 0x43000000#32)))

theorem host_tokens : V m c main_v12 = shapeCast S32768x4096 (m ((c : Thread nD τ).loc main_arg0)) shapeCasts_S4x8192x4096_S32768x4096 := by
  show StableHlo.after hostOps0 (fun b => m (c, b)) (Proc.devRef .tc main_v12) = _
  after_results
  rfl

theorem host_gain : V m c main_v13 = shapeCast S1x4096 (m ((c : Thread nD τ).loc main_arg1)) shapeCasts_S4096_S1x4096 := by
  show StableHlo.after hostOps0 (fun b => m (c, b)) (Proc.devRef .tc main_v13) = _
  after_results
  rfl

theorem host_wscale : V m c main_v14 = shapeCast S1x2304 (m ((c : Thread nD τ).loc main_arg3)) shapeCasts_S2304_S1x2304 := by
  show StableHlo.after hostOps0 (fun b => m (c, b)) (Proc.devRef .tc main_v14) = _
  after_results
  rfl

theorem host_pos : V m c main_v15 = shapeCast S32768x1 (m ((c : Thread nD τ).loc main_arg4)) shapeCasts_S4x8192_S32768x1 := by
  show StableHlo.after hostOps0 (fun b => m (c, b)) (Proc.devRef .tc main_v15) = _
  after_results
  rfl

theorem host_freq : V m c main_v11
    = shapeCast S1x128 (concatenate S128 0 [⟨S64, freq⟩, ⟨S64, freq⟩] concatenates_S64_S64_S128_d0) shapeCasts_S128_S1x128 := by
  show StableHlo.after hostOps0 (fun b => m (c, b)) (Proc.devRef .tc main_v11) = _
  after_results
  rfl

/-- Lane `l` of the doubled frequencies is frequency `l % 64`. -/
theorem doubled (v : FVec Ideal S64 .f32) (l : Fin 128) :
    shapeCast S1x128 (concatenate S128 0 [⟨S64, v⟩, ⟨S64, v⟩] concatenates_S64_S64_S128_d0) shapeCasts_S128_S1x128 (ix2 0 l)
      = v (ix1 ⟨l.val % 64, lane_mod l⟩) := by
  pointwise []
  split
  · exact congrArg (fun k => v (ix1 k)) (Fin.ext (by show l.val = l.val % 64; omega))
  · exact congrArg (fun k => v (ix1 k)) (Fin.ext (by show l.val - 64 = l.val % 64; omega))

end Cert.KernelIdeal.RowValue

end
-- ==== Proof.Outputs.lean ====
/-
  The five results as functions of the five arguments: what both programs are shown to leave behind.
-/
module

public import proofs.«01_k».proof.Proof.KernelHost

@[expose] public section

set_option maxRecDepth 16384

noncomputable section

open Idealize.ShloMosaic Idealize.ShloMosaic.TcCoe Idealize.SL.Sem
open Idealize.ShloMosaic.Pipeline (Dat)

namespace RopeQuant

open Cert.KernelIdeal Cert.KernelIdeal.Gen

variable (a0 : FVec Ideal S4x8192x4096 .bf16) (a1 : FVec Ideal S4096 .f32) (a2 : FVec Ideal S4096x2304 .fp8e4m3)
  (a3 : FVec Ideal S2304 .f32) (a4 : IVec S4x8192 32)

/-- The activations, one row a token. -/
def tokens (i : Fin 32768) (k : Fin 4096) : EReal := shapeCast S32768x4096 a0 shapeCasts_S4x8192x4096_S32768x4096 (ix2 i k)

/-- The gain of the normalisation. -/
def gain (k : Fin 4096) : EReal := shapeCast S1x4096 a1 shapeCasts_S4096_S1x4096 (ix2 0 k)

/-- The weights. -/
def weight (k : Fin 4096) (n : Fin 2304) : EReal := a2 (ix2 k n)

/-- The scales of the weight's columns. -/
def wscale (n : Fin 2304) : EReal := shapeCast S1x2304 a3 shapeCasts_S2304_S1x2304 (ix2 0 n)

/-- The tokens' positions. -/
def pos (i : Fin 32768) : BitVec 32 := shapeCast S32768x1 a4 shapeCasts_S4x8192_S32768x1 (ix2 i 0)

/-- The inverse frequencies. -/
def invFreq (l : Fin 64) : EReal := Cert.KernelIdeal.RowValue.freq (ix1 l)

/-- The rotated queries. -/
def queryOut : FVec Ideal S32768x2048 .bf16 := fun y =>
  queryRes (tokens a0) (gain a1) (weight a2) (wscale a3) (pos a4) invFreq (y 0) (y 1).val

/-- The rotated key. -/
def keyOut : FVec Ideal S32768x128 .bf16 := fun y =>
  keyRes (tokens a0) (gain a1) (weight a2) (wscale a3) (pos a4) invFreq (y 0) (y 1).val

/-- The value. -/
def valueOut : FVec Ideal S32768x128 .bf16 := fun y =>
  valueRes (tokens a0) (gain a1) (weight a2) (wscale a3) (y 0) (y 1).val

/-- The quantised activations. -/
def codeOut : FVec Ideal S32768x4096 .fp8e4m3 := fun y =>
  codeRes (tokens a0) (gain a1) (y 0) (y 1)

/-- The tokens' scales. -/
def scaleOut : FVec Ideal S32768x1 .f32 := fun y =>
  scaleRes (tokens a0) (gain a1) (y 0)

end RopeQuant

end
-- ==== Proof.KernelRun.lean ====
/-
  The kernel's run: its five results are the named functions of the arguments, and the arguments are as launched.
-/
module

public import proofs.«01_k».proof.Proof.Outputs

@[expose] public section

set_option maxRecDepth 16384

noncomputable section

open Idealize.ShloMosaic Idealize.ShloMosaic.TcCoe Idealize.SL.Sem
open Idealize.ShloMosaic.Pipeline (Dat)

namespace Cert.KernelIdeal.RowValue

open Cert.KernelIdeal Cert.KernelIdeal.Gen RopeQuant

variable (m : (ℓ : Loc nD τ sig) → Buf (Elt Ideal) ℓ) (ρ : Dev nD → PrngReg) (c : Dev nD)

/-! What the grid reads, in terms of the arguments. -/

theorem tokens_eq : (fun (i : Fin 32768) (k : Fin 4096) => V m c main_v12 (ix2 i k)) = tokens (m ((c : Thread nD τ).loc main_arg0)) := by
  rw [host_tokens]; rfl

theorem gain_eq : (fun k : Fin 4096 => V m c main_v13 (ix2 0 k)) = gain (m ((c : Thread nD τ).loc main_arg1)) := by
  rw [host_gain]; rfl

theorem weight_eq : (fun (k : Fin 4096) (n : Fin 2304) => V m c main_arg2 (ix2 k n)) = weight (m ((c : Thread nD τ).loc main_arg2)) := by
  rw [V_main_arg2]; rfl

theorem wscale_eq : (fun n : Fin 2304 => V m c main_v14 (ix2 0 n)) = wscale (m ((c : Thread nD τ).loc main_arg3)) := by
  rw [host_wscale]; rfl

theorem pos_eq : (fun i : Fin 32768 => V m c main_v15 (ix2 i 0)) = pos (m ((c : Thread nD τ).loc main_arg4)) := by
  rw [host_pos]; rfl

theorem freq_eq (l : Fin 128) : V m c main_v11 (ix2 0 l) = invFreq ⟨l.val % 64, lane_mod l⟩ := by
  rw [host_freq]; exact doubled freq l

/-! Each result array after the run is its named function of the arguments. -/

theorem query_out : (dats m 0 c).arrAt 6 cfg0.N = queryOut (m ((c : Thread nD τ).loc main_arg0))
        (m ((c : Thread nD τ).loc main_arg1)) (m ((c : Thread nD τ).loc main_arg2)) (m ((c : Thread nD τ).loc main_arg3)) (m ((c : Thread nD τ).loc main_arg4)) := by
  rw [final_6 m c invFreq (freq_eq m c), tokens_eq m c, gain_eq m c, weight_eq m c, wscale_eq m c, pos_eq m c]
  rfl

theorem key_out : (dats m 0 c).arrAt 7 cfg0.N = keyOut (m ((c : Thread nD τ).loc main_arg0))
        (m ((c : Thread nD τ).loc main_arg1)) (m ((c : Thread nD τ).loc main_arg2)) (m ((c : Thread nD τ).loc main_arg3)) (m ((c : Thread nD τ).loc main_arg4)) := by
  rw [final_7 m c invFreq (freq_eq m c), tokens_eq m c, gain_eq m c, weight_eq m c, wscale_eq m c, pos_eq m c]
  rfl

theorem value_out : (dats m 0 c).arrAt 8 cfg0.N = valueOut (m ((c : Thread nD τ).loc main_arg0))
        (m ((c : Thread nD τ).loc main_arg1)) (m ((c : Thread nD τ).loc main_arg2)) (m ((c : Thread nD τ).loc main_arg3)) := by
  rw [final_8 m c, tokens_eq m c, gain_eq m c, weight_eq m c, wscale_eq m c]
  rfl

theorem code_out : (dats m 0 c).arrAt 9 cfg0.N = codeOut (m ((c : Thread nD τ).loc main_arg0))
        (m ((c : Thread nD τ).loc main_arg1)) := by
  have e : (dats m 0 c).arrAt 9 cfg0.N = fun y : S32768x4096.Idx => codeRes (fun (i : Fin 32768) (k : Fin 4096) => V m c main_v12 (ix2 i k))
      (fun k : Fin 4096 => V m c main_v13 (ix2 0 k)) (y 0) (y 1) := final_9 m c
  rw [e, tokens_eq m c, gain_eq m c]
  rfl

theorem scale_out : (dats m 0 c).arrAt 10 cfg0.N = scaleOut (m ((c : Thread nD τ).loc main_arg0))
        (m ((c : Thread nD τ).loc main_arg1)) := by
  have e : (dats m 0 c).arrAt 10 cfg0.N = fun y : S32768x1.Idx => scaleRes (fun (i : Fin 32768) (k : Fin 4096) => V m c main_v12 (ix2 i k))
      (fun k : Fin 4096 => V m c main_v13 (ix2 0 k)) (y 0) := final_10 m c
  rw [e, tokens_eq m c, gain_eq m c]
  rfl

/-- The run: the results, and the arguments as launched. -/
theorem run : θ_run defs (onTc (τ := τ) (main (F := Ideal))) ⟨m, fun _ => 0, ρ⟩ fun r => ∀ c : Dev nD,
      r.2.mem ((c : Thread nD τ).loc main_v16_0) = queryOut (m ((c : Thread nD τ).loc main_arg0))
        (m ((c : Thread nD τ).loc main_arg1)) (m ((c : Thread nD τ).loc main_arg2)) (m ((c : Thread nD τ).loc main_arg3)) (m ((c : Thread nD τ).loc main_arg4))
      ∧ r.2.mem ((c : Thread nD τ).loc main_v16_1) = keyOut (m ((c : Thread nD τ).loc main_arg0))
        (m ((c : Thread nD τ).loc main_arg1)) (m ((c : Thread nD τ).loc main_arg2)) (m ((c : Thread nD τ).loc main_arg3)) (m ((c : Thread nD τ).loc main_arg4))
      ∧ r.2.mem ((c : Thread nD τ).loc main_v16_2) = valueOut (m ((c : Thread nD τ).loc main_arg0))
        (m ((c : Thread nD τ).loc main_arg1)) (m ((c : Thread nD τ).loc main_arg2)) (m ((c : Thread nD τ).loc main_arg3))
      ∧ r.2.mem ((c : Thread nD τ).loc main_v16_3) = codeOut (m ((c : Thread nD τ).loc main_arg0))
        (m ((c : Thread nD τ).loc main_arg1))
      ∧ r.2.mem ((c : Thread nD τ).loc main_v16_4) = scaleOut (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (query_out m c),
      ((h c).1 7).trans (key_out m c),
      ((h c).1 8).trans (value_out m c),
      ((h c).1 9).trans (code_out m c),
      ((h c).1 10).trans (scale_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.RowValue

end
-- ==== Proof.RefRows.lean ====
/-
  The reference's body on all the tokens, each value read at an index: it is the token's row-wise function
  (RowSpec.lean) of the row.
-/
module

public import proofs.«01_k».proof.Proof.Gen.ReferenceIdeal.Skeleton
public import proofs.«01_k».proof.Proof.RowSpec

@[expose] public section

set_option maxRecDepth 16384

noncomputable section

open Idealize.ShloMosaic Idealize.ShloMosaic.TcCoe

namespace Cert.ReferenceIdeal.RowValue

open Cert.ReferenceIdeal Cert.ReferenceIdeal.Gen RopeQuant

/-- The normalised rows. -/
theorem norm_apply (x : Vec Ideal S32768x4096 .bf16) (g : Vec Ideal S1x4096 .f32) (i : Fin 32768) (j : Fin 4096) :
    k0_pay3 x g (ix2 i j) = normAt (fun k => x (ix2 i k)) (fun k => g (ix2 0 k)) j := by
  pointwise [k0_pay3, ↓rowSum_apply]
  rfl

/-- The exponents, from any column of greatest magnitudes. -/
theorem expo_of (m : FVec Ideal S32768x1 .f32) (i : Fin 32768) (j : Fin 1) :
    select (andi (cmpf .oge (mulf m (broadcast S32768x1 (Scalar.ofBits .f32 0x3B124925#32))) (broadcast S32768x1 (Scalar.ofBits .f32 0x00800000#32)))
        (cmpf .olt (mulf m (broadcast S32768x1 (Scalar.ofBits .f32 0x3B124925#32))) (broadcast S32768x1 (Scalar.ofBits .f32 0x7E800000#32))))
      (addf (floor (divf (log (mulf m (broadcast S32768x1 (Scalar.ofBits .f32 0x3B124925#32)))) (log (broadcast S32768x1 (Scalar.ofBits .f32 0x40000000#32)))))
        (broadcast S32768x1 (Scalar.ofBits .f32 0x3F800000#32)))
      (broadcast S32768x1 (Scalar.ofBits .f32 0x00000000#32)) (ix2 i j)
      = expo (m (ix2 i j) * Ideal.ofBits .f32 0x3B124925#32) := by
  pointwise []
  rfl

/-- The rows' exponents. -/
theorem expo_apply (x : Vec Ideal S32768x4096 .bf16) (g : Vec Ideal S1x4096 .f32) (i : Fin 32768) (j : Fin 1) :
    k0_pay4 x g (ix2 i j) = expo (ratioAt (fun k => x (ix2 i k)) (fun k => g (ix2 0 k))) := by
  refine (expo_of (shapeCast S32768x1 (multiReduction .maximumf [1] S32768 (absf (k0_pay3 x g)) 0xFF800000#32
    reduces_S32768x4096_S32768 (.inl rfl) rfl) shapeCasts_S32768_S32768x1) i j).trans ?_
  refine (congrArg (fun t : EReal => expo (t * Ideal.ofBits .f32 0x3B124925#32))
    (rowMax_apply (absf (k0_pay3 x g)) _ _ _ _ _ i j)).trans ?_
  unfold ratioAt amaxAt
  refine congrArg (fun f : Fin 4096 → EReal => expo (Finset.univ.fold max (Ideal.ofBits .f32 0xFF800000#32) f * Ideal.ofBits .f32 0x3B124925#32)) ?_
  funext k
  rw [← norm_apply]
  rfl

/-- The power of two of a column, at an index. -/
theorem exp2_of (e : FVec Ideal S32768x1 .f32) (i : S32768x1.Idx) : exp2 e i = Ideal.exp2 (e i) := rfl

/-- The rows' scales. -/
theorem scale_apply (x : Vec Ideal S32768x4096 .bf16) (g : Vec Ideal S1x4096 .f32) (i : Fin 32768) (j : Fin 1) :
    k0_pay5 x g (ix2 i j) = scaleAt (fun k => x (ix2 i k)) (fun k => g (ix2 0 k)) := by
  refine (exp2_of (k0_pay4 x g) (ix2 i j)).trans ?_
  rw [expo_apply]
  unfold scaleAt
  rfl

/-- The codes, from any normalised rows and exponents. -/
theorem code_of (h : FVec Ideal S32768x4096 .f32) (e : FVec Ideal S32768x1 .f32) (i : Fin 32768) (j : Fin 4096) :
    k0_pay8 (mulf h (broadcastTo S32768x4096 (exp2 (subf (broadcast S32768x1 (Scalar.ofBits .f32 0x00000000#32)) e)) broadcasts_S32768x1_S32768x4096))
      (Scalar.ofBits .f32 0x43E00000#32) (k0_pay7 (F := Ideal)) (ix2 i j)
      = min (Ideal.ofBits .f32 0x43E00000#32) (max (Ideal.ofBits .f32 0xC3E00000#32) (h (ix2 i j) * Ideal.exp2 (0 - e (ix2 i 0)))) := by
  pointwise [k0_pay8, k0_pay7, exp2_of]

/-- The codes. -/
theorem code_apply (x : Vec Ideal S32768x4096 .bf16) (g : Vec Ideal S1x4096 .f32) (i : Fin 32768) (j : Fin 4096) :
    k0_pay8 (k0_pay6 x g) (Scalar.ofBits .f32 0x43E00000#32) (k0_pay7 (F := Ideal)) (ix2 i j)
      = codeAt (fun k => x (ix2 i k)) (fun k => g (ix2 0 k)) j := by
  have e : k0_pay6 x g = mulf (k0_pay3 x g) (broadcastTo S32768x4096 (exp2 (subf (broadcast S32768x1 (Scalar.ofBits .f32 0x00000000#32)) (k0_pay4 x g)))
      broadcasts_S32768x1_S32768x4096) := by unfold k0_pay6; rfl
  rw [e, code_of, norm_apply, expo_apply]
  unfold codeAt
  rfl

/-- The product, from any scales and codes. -/
theorem prod_of (a : FVec Ideal S32768x1 .f32) (v : FVec Ideal S32768x4096 .f32) (c : Ideal .f32) (u : FVec Ideal S32768x4096 .f32)
    (w : Vec Ideal S4096x2304 .fp8e4m3) (ws : Vec Ideal S1x2304 .f32) (i : Fin 32768) (n : Fin 2304) :
    k0_pay9 a v c u w ws (ix2 i n) = (∑ k, k0_pay8 v c u (ix2 i k) * w (ix2 k n)) * a (ix2 i 0) * ws (ix2 0 n) := by
  pointwise [k0_pay9]

/-- The product, scaled back. -/
theorem prod_apply (x : Vec Ideal S32768x4096 .bf16) (g : Vec Ideal S1x4096 .f32) (w : Vec Ideal S4096x2304 .fp8e4m3)
    (ws : Vec Ideal S1x2304 .f32) (i : Fin 32768) (n : Fin 2304) :
    k0_pay9 (k0_pay5 x g) (k0_pay6 x g) (Scalar.ofBits .f32 0x43E00000#32) (k0_pay7 (F := Ideal)) w ws (ix2 i n)
      = prodN (fun k => x (ix2 i k)) (fun k => g (ix2 0 k)) (fun k n => w (ix2 k n)) (fun n => ws (ix2 0 n)) n.val := by
  rw [← prodAt_eq, prod_of, scale_apply]
  unfold prodAt
  refine congrArg (fun s : EReal => s * scaleAt (fun k => x (ix2 i k)) (fun k => g (ix2 0 k)) * ws (ix2 0 n)) ?_
  refine Finset.sum_congr rfl fun k _ => ?_
  rw [code_apply]

/-- The cosines. -/
theorem cos_apply (p : Vec Ideal S32768x1 .i32) (f : Vec Ideal S1x64 .f32) (i : Fin 32768) (l : Fin 64) :
    k0_pay13 p f (ix2 i l) = Ideal.cos (angleN (p (ix2 i 0)) (fun l => f (ix2 0 l)) l.val) := by
  rw [← angle_eq]
  pointwise [k0_pay13, k0_pay12]

/-- The sines. -/
theorem sin_apply (p : Vec Ideal S32768x1 .i32) (f : Vec Ideal S1x64 .f32) (i : Fin 32768) (l : Fin 64) :
    k0_pay14 p f (ix2 i l) = Ideal.sin (angleN (p (ix2 i 0)) (fun l => f (ix2 0 l)) l.val) := by
  rw [← angle_eq]
  pointwise [k0_pay14, k0_pay12]

end Cert.ReferenceIdeal.RowValue

end
-- ==== Proof.RefRope.lean ====
/-
  The rotary embedding of the reference, read at an index: queries in heads of 128, keys as one head, values as they are.
-/
module

public import proofs.«01_k».proof.Proof.Gen.ReferenceIdeal.Skeleton
public import proofs.«01_k».proof.Proof.RowSpec

@[expose] public section

set_option maxRecDepth 16384

noncomputable section

open Idealize.ShloMosaic Idealize.ShloMosaic.TcCoe

namespace Cert.ReferenceIdeal.RowValue

open Cert.ReferenceIdeal Cert.ReferenceIdeal.Gen RopeQuant

variable (a : FVec Ideal S32768x1 .f32) (v : FVec Ideal S32768x4096 .f32) (c : Ideal .f32) (u : FVec Ideal S32768x4096 .f32)
    (w : Vec Ideal S4096x2304 .fp8e4m3) (ws : Vec Ideal S1x2304 .f32)
    (p : Vec Ideal S32768x1 .i32) (f : Vec Ideal S1x64 .f32) (Y : Nat → EReal) (q : BitVec 32) (f64 : Fin 64 → EReal)

/-- The queries. -/
theorem query_apply (i : Fin 32768) (j : Fin 2048)
    (hy : ∀ n : Fin 2304, k0_pay9 a v c u w ws (ix2 i n) = Y n.val)
    (hc : ∀ l : Fin 64, k0_pay13 p f (ix2 i l) = Ideal.cos (angleN q f64 l.val))
    (hs : ∀ l : Fin 64, k0_pay14 p f (ix2 i l) = Ideal.sin (angleN q f64 l.val)) :
    k0_pay15 a v c u w ws p f (ix2 i j) = ropeAt Y q f64 (j.val / 128 * 128) (j.val % 128) := by
  pointwise [k0_pay15]
  simp only [hy, hc, hs]
  unfold ropeAt
  by_cases h : j.val % 128 < 64
  · rw [dif_pos h, if_pos h, show j.val / 128 * 128 + j.val % 128 = j.val by omega]
  · rw [dif_neg h, if_neg h, show 64 + (j.val % 128 - 64) = j.val % 128 by omega]

/-- The keys. -/
theorem key_apply (i : Fin 32768) (j : Fin 128)
    (hy : ∀ n : Fin 2304, k0_pay9 a v c u w ws (ix2 i n) = Y n.val)
    (hc : ∀ l : Fin 64, k0_pay13 p f (ix2 i l) = Ideal.cos (angleN q f64 l.val))
    (hs : ∀ l : Fin 64, k0_pay14 p f (ix2 i l) = Ideal.sin (angleN q f64 l.val)) :
    k0_pay1 (k0_pay13 p f) (k0_pay14 p f) (k0_pay16 a v c u w ws) (k0_pay17 a v c u w ws) (k0_pay18 a v c u w ws p f)
      (k0_pay19 a v c u w ws p f) (ix2 i j) = ropeAt Y q f64 2048 j.val := by
  pointwise [k0_pay1, k0_pay16, k0_pay17, k0_pay18, k0_pay19, k0_pay10]
  simp only [hy, hc, hs]
  unfold ropeAt
  by_cases h : j.val < 64
  · rw [dif_pos h, if_pos h]
  · rw [dif_neg h, if_neg h, show 64 + (j.val - 64) = j.val by omega]

/-- The values. -/
theorem value_apply (i : Fin 32768) (j : Fin 128)
    (hy : ∀ n : Fin 2304, k0_pay9 a v c u w ws (ix2 i n) = Y n.val) :
    k0_pay2 (k0_pay11 a v c u w ws) (ix2 i j) = Y (2176 + j.val) := by
  pointwise [k0_pay2, k0_pay11]
  rw [hy]

end Cert.ReferenceIdeal.RowValue

end
-- ==== Proof.RefBlock.lean ====
/-
  What the reference leaves in each of its five outputs, read at an index.
-/
module

public import proofs.«01_k».proof.Proof.Gen.ReferenceIdeal.Frame
public import proofs.«01_k».proof.Proof.RefRows
public import proofs.«01_k».proof.Proof.RefRope

@[expose] public section

set_option maxRecDepth 16384

noncomputable section

open Idealize.ShloMosaic Idealize.ShloMosaic.TcCoe

namespace Cert.ReferenceIdeal.RowValue

open Cert.ReferenceIdeal Cert.ReferenceIdeal.Gen RopeQuant

theorem hz : (![0, 0] : Fin 2 → Nat) = fun _ => 0 := funext fun a => by fin_cases a <;> rfl

variable (x0 : Vec Ideal S32768x4096 .bf16) (x1 : Vec Ideal S1x4096 .f32) (x2 : Vec Ideal S4096x2304 .fp8e4m3) (x3 : Vec Ideal S1x2304 .f32)
  (x4 : Vec Ideal S32768x1 .i32) (x5 : Vec Ideal S1x64 .f32)

/-- The scales, at an index. -/
theorem scale_block (i : Fin 32768) (j : Fin 1) : out0_10 x0 x1 x2 x3 x4 x5 (ix2 i j)
    = scaleAt (fun k => x0 (ix2 i k)) (fun k => x1 (ix2 0 k)) := by
  unfold out0_10 k0_pay20
  rw [View.canon_unit_zero hz, View.ld_unit_zero hz, View.ld_unit_zero hz]
  exact scale_apply x0 x1 i j

/-- The codes, at an index. -/
theorem code_block (i : Fin 32768) (j : Fin 4096) : out0_9 x0 x1 x2 x3 x4 x5 (ix2 i j)
    = codeAt (fun k => x0 (ix2 i k)) (fun k => x1 (ix2 0 k)) j := by
  unfold out0_9 k0_pay21 k0_pay22
  rw [View.canon_unit_zero hz, View.ld_unit_zero hz, View.ld_unit_zero hz]
  exact code_apply x0 x1 i j

/-- The values, at an index. -/
theorem value_block (i : Fin 32768) (j : Fin 128) : out0_8 x0 x1 x2 x3 x4 x5 (ix2 i j)
    = prodN (fun k => x0 (ix2 i k)) (fun k => x1 (ix2 0 k)) (fun k n => x2 (ix2 k n)) (fun n => x3 (ix2 0 n)) (2176 + j.val) := by
  unfold out0_8 k0_pay20 k0_pay21 k0_pay22
  rw [View.canon_unit_zero hz, View.ld_unit_zero hz, View.ld_unit_zero hz, View.ld_unit_zero hz, View.ld_unit_zero hz]
  exact value_apply _ _ _ _ _ _ _ i j fun n => prod_apply x0 x1 x2 x3 i n

/-- The keys, at an index. -/
theorem key_block (i : Fin 32768) (j : Fin 128) : out0_7 x0 x1 x2 x3 x4 x5 (ix2 i j)
    = ropeAt (prodN (fun k => x0 (ix2 i k)) (fun k => x1 (ix2 0 k)) (fun k n => x2 (ix2 k n)) (fun n => x3 (ix2 0 n)))
        (x4 (ix2 i 0)) (fun l => x5 (ix2 0 l)) 2048 j.val := by
  unfold out0_7 k0_pay20 k0_pay21 k0_pay22
  rw [View.canon_unit_zero hz]
  rw [View.ld_unit_zero hz, View.ld_unit_zero hz, View.ld_unit_zero hz, View.ld_unit_zero hz, View.ld_unit_zero hz, View.ld_unit_zero hz]
  exact key_apply _ _ _ _ _ _ _ _ _ _ _ i j (fun n => prod_apply x0 x1 x2 x3 i n) (cos_apply x4 x5 i) (sin_apply x4 x5 i)

/-- The queries, at an index. -/
theorem query_block (i : Fin 32768) (j : Fin 2048) : out0_6 x0 x1 x2 x3 x4 x5 (ix2 i j)
    = ropeAt (prodN (fun k => x0 (ix2 i k)) (fun k => x1 (ix2 0 k)) (fun k n => x2 (ix2 k n)) (fun n => x3 (ix2 0 n)))
        (x4 (ix2 i 0)) (fun l => x5 (ix2 0 l)) (j.val / 128 * 128) (j.val % 128) := by
  unfold out0_6 k0_pay20 k0_pay21 k0_pay22
  rw [View.canon_unit_zero hz]
  rw [View.ld_unit_zero hz, View.ld_unit_zero hz, View.ld_unit_zero hz, View.ld_unit_zero hz, View.ld_unit_zero hz, View.ld_unit_zero hz]
  exact query_apply _ _ _ _ _ _ _ _ _ _ _ i j (fun n => prod_apply x0 x1 x2 x3 i n) (cos_apply x4 x5 i) (sin_apply x4 x5 i)

end Cert.ReferenceIdeal.RowValue

end
-- ==== Proof.RefFinal.lean ====
/-
  The reference's five result arrays after the run: its one grid point reads and writes every array whole.
-/
module

public import proofs.«01_k».proof.Proof.RefBlock
public import proofs.«01_k».proof.Proof.Results

@[expose] public section

set_option maxRecDepth 16384

noncomputable section

open Idealize.ShloMosaic Idealize.ShloMosaic.TcCoe Idealize.SL.Sem
open Idealize.ShloMosaic.Pipeline (Dat)

namespace Cert.ReferenceIdeal.RowValue

open Cert.ReferenceIdeal Cert.ReferenceIdeal.Gen RopeQuant

variable (m : (ℓ : Loc nD τ sig) → Buf (Elt Ideal) ℓ)

theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem emb_0 (t : Fin cfg0.N) (i : Fin 32768) (j : Fin 4096) : ((cfg0.win 0).blk t).view.emb (ix2 i j : S32768x4096.Idx) = ix2 i j := by
  obtain ⟨e0, e1⟩ := index_0 t
  funext a; apply Fin.ext
  match a with
  | ⟨0, _⟩ => show win0_0.index t (0 : Fin 2) * 32768 + 1 * i.val = i.val; omega
  | ⟨1, _⟩ => show win0_0.index t (1 : Fin 2) * 4096 + 1 * j.val = j.val; omega

theorem block_0 (c : Dev nD) (t : Fin cfg0.N) (i : Fin 32768) (j : Fin 4096) : iblk m c 0 t (ix2 i j : S32768x4096.Idx) = V m c main_v10 (ix2 i j) := by
  show V m c main_v10 (((cfg0.win 0).blk t).view.emb (ix2 i j : S32768x4096.Idx)) = _
  rw [emb_0]

theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb_1 (t : Fin cfg0.N) (i : Fin 1) (j : Fin 4096) : ((cfg0.win 1).blk t).view.emb (ix2 i j : S1x4096.Idx) = ix2 i j := by
  obtain ⟨e0, e1⟩ := index_1 t
  funext a; apply Fin.ext
  match a with
  | ⟨0, _⟩ => show win0_1.index t (0 : Fin 2) * 1 + 1 * i.val = i.val; omega
  | ⟨1, _⟩ => show win0_1.index t (1 : Fin 2) * 4096 + 1 * j.val = j.val; omega

theorem block_1 (c : Dev nD) (t : Fin cfg0.N) (i : Fin 1) (j : Fin 4096) : iblk m c 1 t (ix2 i j : S1x4096.Idx) = V m c main_v11 (ix2 i j) := by
  show V m c main_v11 (((cfg0.win 1).blk t).view.emb (ix2 i j : S1x4096.Idx)) = _
  rw [emb_1]

theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb_2 (t : Fin cfg0.N) (i : Fin 4096) (j : Fin 2304) : ((cfg0.win 2).blk t).view.emb (ix2 i j : S4096x2304.Idx) = ix2 i j := by
  obtain ⟨e0, e1⟩ := index_2 t
  funext a; apply Fin.ext
  match a with
  | ⟨0, _⟩ => show win0_2.index t (0 : Fin 2) * 4096 + 1 * i.val = i.val; omega
  | ⟨1, _⟩ => show win0_2.index t (1 : Fin 2) * 2304 + 1 * j.val = j.val; omega

theorem block_2 (c : Dev nD) (t : Fin cfg0.N) (i : Fin 4096) (j : Fin 2304) : iblk m c 2 t (ix2 i j : S4096x2304.Idx) = V m c main_arg2 (ix2 i j) := by
  show V m c main_arg2 (((cfg0.win 2).blk t).view.emb (ix2 i j : S4096x2304.Idx)) = _
  rw [emb_2]

theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb_3 (t : Fin cfg0.N) (i : Fin 1) (j : Fin 2304) : ((cfg0.win 3).blk t).view.emb (ix2 i j : S1x2304.Idx) = ix2 i j := by
  obtain ⟨e0, e1⟩ := index_3 t
  funext a; apply Fin.ext
  match a with
  | ⟨0, _⟩ => show win0_3.index t (0 : Fin 2) * 1 + 1 * i.val = i.val; omega
  | ⟨1, _⟩ => show win0_3.index t (1 : Fin 2) * 2304 + 1 * j.val = j.val; omega

theorem block_3 (c : Dev nD) (t : Fin cfg0.N) (i : Fin 1) (j : Fin 2304) : iblk m c 3 t (ix2 i j : S1x2304.Idx) = V m c main_v12 (ix2 i j) := by
  show V m c main_v12 (((cfg0.win 3).blk t).view.emb (ix2 i j : S1x2304.Idx)) = _
  rw [emb_3]

theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb_4 (t : Fin cfg0.N) (i : Fin 32768) (j : Fin 1) : ((cfg0.win 4).blk t).view.emb (ix2 i j : S32768x1.Idx) = ix2 i j := by
  obtain ⟨e0, e1⟩ := index_4 t
  funext a; apply Fin.ext
  match a with
  | ⟨0, _⟩ => show win0_4.index t (0 : Fin 2) * 32768 + 1 * i.val = i.val; omega
  | ⟨1, _⟩ => show win0_4.index t (1 : Fin 2) * 1 + 1 * j.val = j.val; omega

theorem block_4 (c : Dev nD) (t : Fin cfg0.N) (i : Fin 32768) (j : Fin 1) : iblk m c 4 t (ix2 i j : S32768x1.Idx) = V m c main_v13 (ix2 i j) := by
  show V m c main_v13 (((cfg0.win 4).blk t).view.emb (ix2 i j : S32768x1.Idx)) = _
  rw [emb_4]

theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem emb_5 (t : Fin cfg0.N) (i : Fin 1) (j : Fin 64) : ((cfg0.win 5).blk t).view.emb (ix2 i j : S1x64.Idx) = ix2 i j := by
  obtain ⟨e0, e1⟩ := index_5 t
  funext a; apply Fin.ext
  match a with
  | ⟨0, _⟩ => show win0_5.index t (0 : Fin 2) * 1 + 1 * i.val = i.val; omega
  | ⟨1, _⟩ => show win0_5.index t (1 : Fin 2) * 64 + 1 * j.val = j.val; omega

theorem block_5 (c : Dev nD) (t : Fin cfg0.N) (i : Fin 1) (j : Fin 64) : iblk m c 5 t (ix2 i j : S1x64.Idx) = V m c main_v14 (ix2 i j) := by
  show V m c main_v14 (((cfg0.win 5).blk t).view.emb (ix2 i j : S1x64.Idx)) = _
  rw [emb_5]

theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem emb_6 (t : Fin cfg0.N) (i : Fin 32768) (j : Fin 2048) : ((cfg0.win 6).blk t).view.emb (ix2 i j : S32768x2048.Idx) = ix2 i j := by
  obtain ⟨e0, e1⟩ := index_6 t
  funext a; apply Fin.ext
  match a with
  | ⟨0, _⟩ => show win0_6.index t (0 : Fin 2) * 32768 + 1 * i.val = i.val; omega
  | ⟨1, _⟩ => show win0_6.index t (1 : Fin 2) * 2048 + 1 * j.val = j.val; omega

theorem index_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem emb_7 (t : Fin cfg0.N) (i : Fin 32768) (j : Fin 128) : ((cfg0.win 7).blk t).view.emb (ix2 i j : S32768x128.Idx) = ix2 i j := by
  obtain ⟨e0, e1⟩ := index_7 t
  funext a; apply Fin.ext
  match a with
  | ⟨0, _⟩ => show win0_7.index t (0 : Fin 2) * 32768 + 1 * i.val = i.val; omega
  | ⟨1, _⟩ => show win0_7.index t (1 : Fin 2) * 128 + 1 * j.val = j.val; omega

theorem index_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem emb_8 (t : Fin cfg0.N) (i : Fin 32768) (j : Fin 128) : ((cfg0.win 8).blk t).view.emb (ix2 i j : S32768x128.Idx) = ix2 i j := by
  obtain ⟨e0, e1⟩ := index_8 t
  funext a; apply Fin.ext
  match a with
  | ⟨0, _⟩ => show win0_8.index t (0 : Fin 2) * 32768 + 1 * i.val = i.val; omega
  | ⟨1, _⟩ => show win0_8.index t (1 : Fin 2) * 128 + 1 * j.val = j.val; omega

theorem index_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem emb_9 (t : Fin cfg0.N) (i : Fin 32768) (j : Fin 4096) : ((cfg0.win 9).blk t).view.emb (ix2 i j : S32768x4096.Idx) = ix2 i j := by
  obtain ⟨e0, e1⟩ := index_9 t
  funext a; apply Fin.ext
  match a with
  | ⟨0, _⟩ => show win0_9.index t (0 : Fin 2) * 32768 + 1 * i.val = i.val; omega
  | ⟨1, _⟩ => show win0_9.index t (1 : Fin 2) * 4096 + 1 * j.val = j.val; omega

theorem index_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem emb_10 (t : Fin cfg0.N) (i : Fin 32768) (j : Fin 1) : ((cfg0.win 10).blk t).view.emb (ix2 i j : S32768x1.Idx) = ix2 i j := by
  obtain ⟨e0, e1⟩ := index_10 t
  funext a; apply Fin.ext
  match a with
  | ⟨0, _⟩ => show win0_10.index t (0 : Fin 2) * 32768 + 1 * i.val = i.val; omega
  | ⟨1, _⟩ => show win0_10.index t (1 : Fin 2) * 1 + 1 * j.val = j.val; omega

variable (c : Dev nD)

theorem point : 0 < cfg0.N := lt_of_lt_of_eq Nat.zero_lt_one N_0.symm

theorem cover_6 (y : S32768x2048.Idx) : ∃ t : Fin cfg0.N, (cfg0.win 6).flush t = true ∧ y ∈ ((cfg0.win 6).blk t).view.set := by
  obtain ⟨i, j, rfl⟩ := idx2 y
  refine ⟨⟨0, point⟩, flush0_6 _, ?_⟩
  have h := ((cfg0.win 6).blk ⟨0, point⟩).view.emb_mem_set (ix2 i j : S32768x2048.Idx)
  rwa [emb_6] at h

/-- The queries after the run. -/
theorem final_6 : (dats m 0 c).arrAt 6 cfg0.N = fun y : S32768x2048.Idx =>
    queryRes (fun i k => V m c main_v10 (ix2 i k)) (fun k => V m c main_v11 (ix2 0 k))
      (fun k n => V m c main_arg2 (ix2 k n)) (fun n => V m c main_v12 (ix2 0 n)) (fun i => V m c main_v13 (ix2 i 0)) (fun l => V m c main_v14 (ix2 0 l)) (y 0) (y 1).val := by
  refine (dats m 0 c).arrAt_eq_of_cover 6 _ (fun t _ => ?_) cover_6
  show (cfg0.win 6).cut (grid0.coords t) ((dats m 0 c).after 6 t) = _
  rw [after0_6]
  funext y
  obtain ⟨i, j, rfl⟩ := idx2 (a := 32768) (b := 2048) y
  refine (query_block (iblk m c 0 t) (iblk m c 1 t) (iblk m c 2 t) (iblk m c 3 t) (iblk m c 4 t) (iblk m c 5 t) i j).trans ?_
  simp only [block_0, block_1, block_2, block_3, block_4, block_5]
  refine Eq.symm ((congrArg (fun y : S32768x2048.Idx => queryRes (fun i k => V m c main_v10 (ix2 i k)) (fun k => V m c main_v11 (ix2 0 k))
      (fun k n => V m c main_arg2 (ix2 k n)) (fun n => V m c main_v12 (ix2 0 n)) (fun i => V m c main_v13 (ix2 i 0)) (fun l => V m c main_v14 (ix2 0 l)) (y 0) (y 1).val) (emb_6 t i j)).trans ?_)
  rfl

theorem cover_7 (y : S32768x128.Idx) : ∃ t : Fin cfg0.N, (cfg0.win 7).flush t = true ∧ y ∈ ((cfg0.win 7).blk t).view.set := by
  obtain ⟨i, j, rfl⟩ := idx2 y
  refine ⟨⟨0, point⟩, flush0_7 _, ?_⟩
  have h := ((cfg0.win 7).blk ⟨0, point⟩).view.emb_mem_set (ix2 i j : S32768x128.Idx)
  rwa [emb_7] at h

/-- The keys after the run. -/
theorem final_7 : (dats m 0 c).arrAt 7 cfg0.N = fun y : S32768x128.Idx =>
    keyRes (fun i k => V m c main_v10 (ix2 i k)) (fun k => V m c main_v11 (ix2 0 k))
      (fun k n => V m c main_arg2 (ix2 k n)) (fun n => V m c main_v12 (ix2 0 n)) (fun i => V m c main_v13 (ix2 i 0)) (fun l => V m c main_v14 (ix2 0 l)) (y 0) (y 1).val := by
  refine (dats m 0 c).arrAt_eq_of_cover 7 _ (fun t _ => ?_) cover_7
  show (cfg0.win 7).cut (grid0.coords t) ((dats m 0 c).after 7 t) = _
  rw [after0_7]
  funext y
  obtain ⟨i, j, rfl⟩ := idx2 (a := 32768) (b := 128) y
  refine (key_block (iblk m c 0 t) (iblk m c 1 t) (iblk m c 2 t) (iblk m c 3 t) (iblk m c 4 t) (iblk m c 5 t) i j).trans ?_
  simp only [block_0, block_1, block_2, block_3, block_4, block_5]
  refine Eq.symm ((congrArg (fun y : S32768x128.Idx => keyRes (fun i k => V m c main_v10 (ix2 i k)) (fun k => V m c main_v11 (ix2 0 k))
      (fun k n => V m c main_arg2 (ix2 k n)) (fun n => V m c main_v12 (ix2 0 n)) (fun i => V m c main_v13 (ix2 i 0)) (fun l => V m c main_v14 (ix2 0 l)) (y 0) (y 1).val) (emb_7 t i j)).trans ?_)
  rfl

theorem cover_8 (y : S32768x128.Idx) : ∃ t : Fin cfg0.N, (cfg0.win 8).flush t = true ∧ y ∈ ((cfg0.win 8).blk t).view.set := by
  obtain ⟨i, j, rfl⟩ := idx2 y
  refine ⟨⟨0, point⟩, flush0_8 _, ?_⟩
  have h := ((cfg0.win 8).blk ⟨0, point⟩).view.emb_mem_set (ix2 i j : S32768x128.Idx)
  rwa [emb_8] at h

/-- The values after the run. -/
theorem final_8 : (dats m 0 c).arrAt 8 cfg0.N = fun y : S32768x128.Idx =>
    valueRes (fun i k => V m c main_v10 (ix2 i k)) (fun k => V m c main_v11 (ix2 0 k))
      (fun k n => V m c main_arg2 (ix2 k n)) (fun n => V m c main_v12 (ix2 0 n)) (y 0) (y 1).val := by
  refine (dats m 0 c).arrAt_eq_of_cover 8 _ (fun t _ => ?_) cover_8
  show (cfg0.win 8).cut (grid0.coords t) ((dats m 0 c).after 8 t) = _
  rw [after0_8]
  funext y
  obtain ⟨i, j, rfl⟩ := idx2 (a := 32768) (b := 128) y
  refine (value_block (iblk m c 0 t) (iblk m c 1 t) (iblk m c 2 t) (iblk m c 3 t) (iblk m c 4 t) (iblk m c 5 t) i j).trans ?_
  simp only [block_0, block_1, block_2, block_3]
  refine Eq.symm ((congrArg (fun y : S32768x128.Idx => valueRes (fun i k => V m c main_v10 (ix2 i k)) (fun k => V m c main_v11 (ix2 0 k))
      (fun k n => V m c main_arg2 (ix2 k n)) (fun n => V m c main_v12 (ix2 0 n)) (y 0) (y 1).val) (emb_8 t i j)).trans ?_)
  rfl

theorem cover_9 (y : S32768x4096.Idx) : ∃ t : Fin cfg0.N, (cfg0.win 9).flush t = true ∧ y ∈ ((cfg0.win 9).blk t).view.set := by
  obtain ⟨i, j, rfl⟩ := idx2 y
  refine ⟨⟨0, point⟩, flush0_9 _, ?_⟩
  have h := ((cfg0.win 9).blk ⟨0, point⟩).view.emb_mem_set (ix2 i j : S32768x4096.Idx)
  rwa [emb_9] at h

/-- The codes after the run. -/
theorem final_9 : (dats m 0 c).arrAt 9 cfg0.N = fun y : S32768x4096.Idx =>
    codeAt (fun k => V m c main_v10 (ix2 (y 0) k)) (fun k => V m c main_v11 (ix2 0 k)) (y 1) := by
  refine (dats m 0 c).arrAt_eq_of_cover 9 _ (fun t _ => ?_) cover_9
  show (cfg0.win 9).cut (grid0.coords t) ((dats m 0 c).after 9 t) = _
  rw [after0_9]
  funext y
  obtain ⟨i, j, rfl⟩ := idx2 (a := 32768) (b := 4096) y
  refine (code_block (iblk m c 0 t) (iblk m c 1 t) (iblk m c 2 t) (iblk m c 3 t) (iblk m c 4 t) (iblk m c 5 t) i j).trans ?_
  simp only [block_0, block_1]
  refine Eq.symm ((congrArg (fun y : S32768x4096.Idx => codeAt (fun k => V m c main_v10 (ix2 (y 0) k)) (fun k => V m c main_v11 (ix2 0 k)) (y 1)) (emb_9 t i j)).trans ?_)
  rfl

theorem cover_10 (y : S32768x1.Idx) : ∃ t : Fin cfg0.N, (cfg0.win 10).flush t = true ∧ y ∈ ((cfg0.win 10).blk t).view.set := by
  obtain ⟨i, j, rfl⟩ := idx2 y
  refine ⟨⟨0, point⟩, flush0_10 _, ?_⟩
  have h := ((cfg0.win 10).blk ⟨0, point⟩).view.emb_mem_set (ix2 i j : S32768x1.Idx)
  rwa [emb_10] at h

/-- The scales after the run. -/
theorem final_10 : (dats m 0 c).arrAt 10 cfg0.N = fun y : S32768x1.Idx =>
    scaleAt (fun k => V m c main_v10 (ix2 (y 0) k)) (fun k => V m c main_v11 (ix2 0 k)) := by
  refine (dats m 0 c).arrAt_eq_of_cover 10 _ (fun t _ => ?_) cover_10
  show (cfg0.win 10).cut (grid0.coords t) ((dats m 0 c).after 10 t) = _
  rw [after0_10]
  funext y
  obtain ⟨i, j, rfl⟩ := idx2 (a := 32768) (b := 1) y
  refine (scale_block (iblk m c 0 t) (iblk m c 1 t) (iblk m c 2 t) (iblk m c 3 t) (iblk m c 4 t) (iblk m c 5 t) i j).trans ?_
  simp only [block_0, block_1]
  refine Eq.symm ((congrArg (fun y : S32768x1.Idx => scaleAt (fun k => V m c main_v10 (ix2 (y 0) k)) (fun k => V m c main_v11 (ix2 0 k))) (emb_10 t i j)).trans ?_)
  rfl

end Cert.ReferenceIdeal.RowValue

end
-- ==== Proof.RefHost.lean ====
/-
  What the reference's host operations leave in the arrays that it reads: reshaped arguments and the inverse frequencies.
-/
module

public import proofs.«01_k».proof.Proof.RefFinal
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ReferenceIdeal.RowValue

open Cert.ReferenceIdeal Cert.ReferenceIdeal.Gen RopeQuant

variable (m : (ℓ : Loc nD τ sig) → Buf (Elt Ideal) ℓ) (c : Dev nD)

/-- The inverse frequencies of the rotary embedding. -/
def freq : FVec Ideal S64 .f32 :=
  Host.powf (broadcastInDim S64 ![] bcast_S_S64 (constant S_ .f32 0x461C4000#32))
    (Host.divf (Host.negf (addf (broadcastInDim S64 ![] bcast_S_S64 (constant S_ .f32 0x00000000#32))
      (mulf (broadcastInDim S64 ![] bcast_S_S64 (constant S_ .f32 0x40000000#32)) (sitofp .f32 (iotaInDim S64 32 0)))))
      (broadcastInDim S64 ![] bcast_S_S64 (constant S_ .f32 0x43000000#32)))

theorem host_tokens : V m c main_v10 = shapeCast S32768x4096 (m ((c : Thread nD τ).loc main_arg0)) shapeCasts_S4x8192x4096_S32768x4096 := by
  show StableHlo.after hostOps0 (fun b => m (c, b)) (Proc.devRef .tc main_v10) = _
  after_results
  rfl

theorem host_gain : V m c main_v11 = shapeCast S1x4096 (m ((c : Thread nD τ).loc main_arg1)) shapeCasts_S4096_S1x4096 := by
  show StableHlo.after hostOps0 (fun b => m (c, b)) (Proc.devRef .tc main_v11) = _
  after_results
  rfl

theorem host_wscale : V m c main_v12 = shapeCast S1x2304 (m ((c : Thread nD τ).loc main_arg3)) shapeCasts_S2304_S1x2304 := by
  show StableHlo.after hostOps0 (fun b => m (c, b)) (Proc.devRef .tc main_v12) = _
  after_results
  rfl

theorem host_pos : V m c main_v13 = shapeCast S32768x1 (m ((c : Thread nD τ).loc main_arg4)) shapeCasts_S4x8192_S32768x1 := by
  show StableHlo.after hostOps0 (fun b => m (c, b)) (Proc.devRef .tc main_v13) = _
  after_results
  rfl

theorem host_freq : V m c main_v14 = shapeCast S1x64 freq shapeCasts_S64_S1x64 := by
  show StableHlo.after hostOps0 (fun b => m (c, b)) (Proc.devRef .tc main_v14) = _
  after_results
  rfl

/-- The frequencies laid out as a row, at an index. -/
theorem single (v : FVec Ideal S64 .f32) (l : Fin 64) : shapeCast S1x64 v shapeCasts_S64_S1x64 (ix2 0 l) = v (ix1 l) := by
  pointwise []

end Cert.ReferenceIdeal.RowValue

end
-- ==== Proof.RefRun.lean ====
/-
  The reference's run: its five results are the named functions of the arguments, and the arguments are as launched.
-/
module

public import proofs.«01_k».proof.Proof.Outputs
public import proofs.«01_k».proof.Proof.RefHost

@[expose] public section

set_option maxRecDepth 16384

noncomputable section

open Idealize.ShloMosaic Idealize.ShloMosaic.TcCoe Idealize.SL.Sem
open Idealize.ShloMosaic.Pipeline (Dat)

namespace Cert.ReferenceIdeal.RowValue

open Cert.ReferenceIdeal Cert.ReferenceIdeal.Gen RopeQuant

variable (m : (ℓ : Loc nD τ sig) → Buf (Elt Ideal) ℓ) (ρ : Dev nD → PrngReg) (c : Dev nD)

/-! What the grid reads, in terms of the arguments. -/

theorem tokens_eq : (fun (i : Fin 32768) (k : Fin 4096) => V m c main_v10 (ix2 i k)) = tokens (m ((c : Thread nD τ).loc main_arg0)) := by
  rw [host_tokens]; rfl

theorem gain_eq : (fun k : Fin 4096 => V m c main_v11 (ix2 0 k)) = gain (m ((c : Thread nD τ).loc main_arg1)) := by
  rw [host_gain]; rfl

theorem weight_eq : (fun (k : Fin 4096) (n : Fin 2304) => V m c main_arg2 (ix2 k n)) = weight (m ((c : Thread nD τ).loc main_arg2)) := by
  rw [V_main_arg2]; rfl

theorem wscale_eq : (fun n : Fin 2304 => V m c main_v12 (ix2 0 n)) = wscale (m ((c : Thread nD τ).loc main_arg3)) := by
  rw [host_wscale]; rfl

theorem pos_eq : (fun i : Fin 32768 => V m c main_v13 (ix2 i 0)) = pos (m ((c : Thread nD τ).loc main_arg4)) := by
  rw [host_pos]; rfl

/-- Both programs compute the same inverse frequencies. -/
theorem freq_same : freq = Cert.KernelIdeal.RowValue.freq := rfl

theorem freq_eq : (fun l : Fin 64 => V m c main_v14 (ix2 0 l)) = invFreq := by
  funext l
  rw [host_freq, single, freq_same]; rfl

/-! Each result array after the run is its named function of the arguments. -/

theorem query_out : (dats m 0 c).arrAt 6 cfg0.N = queryOut (m ((c : Thread nD τ).loc main_arg0))
        (m ((c : Thread nD τ).loc main_arg1)) (m ((c : Thread nD τ).loc main_arg2)) (m ((c : Thread nD τ).loc main_arg3)) (m ((c : Thread nD τ).loc main_arg4)) := by
  rw [final_6 m c, tokens_eq m c, gain_eq m c, weight_eq m c, wscale_eq m c, pos_eq m c, freq_eq m c]
  rfl

theorem key_out : (dats m 0 c).arrAt 7 cfg0.N = keyOut (m ((c : Thread nD τ).loc main_arg0))
        (m ((c : Thread nD τ).loc main_arg1)) (m ((c : Thread nD τ).loc main_arg2)) (m ((c : Thread nD τ).loc main_arg3)) (m ((c : Thread nD τ).loc main_arg4)) := by
  rw [final_7 m c, tokens_eq m c, gain_eq m c, weight_eq m c, wscale_eq m c, pos_eq m c, freq_eq m c]
  rfl

theorem value_out : (dats m 0 c).arrAt 8 cfg0.N = valueOut (m ((c : Thread nD τ).loc main_arg0))
        (m ((c : Thread nD τ).loc main_arg1)) (m ((c : Thread nD τ).loc main_arg2)) (m ((c : Thread nD τ).loc main_arg3)) := by
  rw [final_8 m c, tokens_eq m c, gain_eq m c, weight_eq m c, wscale_eq m c]
  rfl

theorem code_out : (dats m 0 c).arrAt 9 cfg0.N = codeOut (m ((c : Thread nD τ).loc main_arg0))
        (m ((c : Thread nD τ).loc main_arg1)) := by
  have e : (dats m 0 c).arrAt 9 cfg0.N = fun y : S32768x4096.Idx => codeRes (fun (i : Fin 32768) (k : Fin 4096) => V m c main_v10 (ix2 i k))
      (fun k : Fin 4096 => V m c main_v11 (ix2 0 k)) (y 0) (y 1) := final_9 m c
  rw [e, tokens_eq m c, gain_eq m c]
  rfl

theorem scale_out : (dats m 0 c).arrAt 10 cfg0.N = scaleOut (m ((c : Thread nD τ).loc main_arg0))
        (m ((c : Thread nD τ).loc main_arg1)) := by
  have e : (dats m 0 c).arrAt 10 cfg0.N = fun y : S32768x1.Idx => scaleRes (fun (i : Fin 32768) (k : Fin 4096) => V m c main_v10 (ix2 i k))
      (fun k : Fin 4096 => V m c main_v11 (ix2 0 k)) (y 0) := final_10 m c
  rw [e, tokens_eq m c, gain_eq m c]
  rfl

/-- The run: the results, and the arguments as launched. -/
theorem run : θ_run defs (onTc (τ := τ) (main (F := Ideal))) ⟨m, fun _ => 0, ρ⟩ fun r => ∀ c : Dev nD,
      r.2.mem ((c : Thread nD τ).loc main_v15_0) = queryOut (m ((c : Thread nD τ).loc main_arg0))
        (m ((c : Thread nD τ).loc main_arg1)) (m ((c : Thread nD τ).loc main_arg2)) (m ((c : Thread nD τ).loc main_arg3)) (m ((c : Thread nD τ).loc main_arg4))
      ∧ r.2.mem ((c : Thread nD τ).loc main_v15_1) = keyOut (m ((c : Thread nD τ).loc main_arg0))
        (m ((c : Thread nD τ).loc main_arg1)) (m ((c : Thread nD τ).loc main_arg2)) (m ((c : Thread nD τ).loc main_arg3)) (m ((c : Thread nD τ).loc main_arg4))
      ∧ r.2.mem ((c : Thread nD τ).loc main_v15_2) = valueOut (m ((c : Thread nD τ).loc main_arg0))
        (m ((c : Thread nD τ).loc main_arg1)) (m ((c : Thread nD τ).loc main_arg2)) (m ((c : Thread nD τ).loc main_arg3))
      ∧ r.2.mem ((c : Thread nD τ).loc main_v15_3) = codeOut (m ((c : Thread nD τ).loc main_arg0))
        (m ((c : Thread nD τ).loc main_arg1))
      ∧ r.2.mem ((c : Thread nD τ).loc main_v15_4) = scaleOut (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (query_out m c),
      ((h c).1 7).trans (key_out m c),
      ((h c).1 8).trans (value_out m c),
      ((h c).1 9).trans (code_out m c),
      ((h c).1 10).trans (scale_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.ReferenceIdeal.RowValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.KernelRun
public import proofs.«01_k».proof.Proof.RefRun

@[expose] public section

noncomputable section

namespace Cert.Proof

open Idealize.ShloMosaic Idealize.ShloMosaic.TcCoe Idealize.SL.Sem RopeQuant

/-- Both programs leave the same named functions of the arguments in their results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, Cert.KernelIdeal.RowValue.run m g, ?_⟩
  refine (θ_run _ _ _).mono (fun r h c => ?_) (Cert.ReferenceIdeal.RowValue.run m' g')
  obtain ⟨h0, h1, h2, h3, h4⟩ := hagree c
  obtain ⟨o0, o1, o2, o3, o4, kept⟩ := h c
  rw [h0, h1] at o0 o1 o2 o3 o4
  rw [h2, h3] at o0 o1 o2
  rw [h4] at o0 o1
  exact ⟨o0, o1, o2, o3, o4, kept⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
